-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_m" .f32 0x3BA3D70A#32 ((200⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x128 : Shape := ⟨2, ![4096, 128]⟩
abbrev S100000x128 : Shape := ⟨2, ![100000, 128]⟩
abbrev S4096x200 : Shape := ⟨2, ![4096, 200]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : FVec F S4096x128 .f32) (main_arg1 : FVec F S100000x128 .f32) (main_arg2 : IVec S4096x200 32) (main_arg3 : FVec F S256x256 .f32) (main_arg4 : FVec F S256 .f32) (main_arg5 : FVec F S256x128 .f32) (main_arg6 : FVec F S128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg2 main_v0
  let main_c_0 : IVec S_ 32 := constantI S_ 32 100000#32
  let main_v2 : IVec S4096x200 32 := broadcastInDim S4096x200 ![] bcast_S_S4096x200 main_c_0
  let main_v3 : IVec S4096x200 1 := cmpi .slt main_arg2 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x128 : Shape := ⟨2, ![4096, 128]⟩
abbrev S100000x128 : Shape := ⟨2, ![100000, 128]⟩
abbrev S4096x200 : Shape := ⟨2, ![4096, 200]⟩
abbrev S256x256 : Shape := ⟨2, ![256, 256]⟩
abbrev S256 : Shape := ⟨1, ![256]⟩
abbrev S256x128 : Shape := ⟨2, ![256, 128]⟩
abbrev S128 : Shape := ⟨1, ![128]⟩
abbrev S819200 : Shape := ⟨1, ![819200]⟩
abbrev S25600 : Shape := ⟨1, ![25600]⟩
abbrev S4x104x128 : Shape := ⟨3, ![4, 104, 128]⟩
abbrev S128x128 : Shape := ⟨2, ![128, 128]⟩
abbrev S_ : Shape := ⟨0, ![]⟩
abbrev S1x96x128 : Shape := ⟨3, ![1, 96, 128]⟩
abbrev S96x128 : Shape := ⟨2, ![96, 128]⟩
abbrev S96 : Shape := ⟨1, ![96]⟩
abbrev S1x104x128 : Shape := ⟨3, ![1, 104, 128]⟩
abbrev S104x128 : Shape := ⟨2, ![104, 128]⟩
abbrev S104 : Shape := ⟨1, ![104]⟩
abbrev S16 : Shape := ⟨1, ![16]⟩
abbrev S1x1x16 : Shape := ⟨3, ![1, 1, 16]⟩
abbrev S1x16 : Shape := ⟨2, ![1, 16]⟩
abbrev S128x256 : Shape := ⟨2, ![128, 256]⟩
abbrev S1x256 : Shape := ⟨2, ![1, 256]⟩
abbrev S1x128 : Shape := ⟨2, ![1, 128]⟩
abbrev S1024x128 : Shape := ⟨2, ![1024, 128]⟩
abbrev S1024x256 : Shape := ⟨2, ![1024, 256]⟩

abbrev nBuf : Table → Nat
  | .hbm => 14
  | .local .tc .vmem => 11
  | .local .scVector .vmem => 3
  | _ => 0

abbrev bufTy : (tb : Table) → Fin (nBuf tb) → BufTy
  | .hbm, ⟨0, _⟩ => ⟨S4096x128, .f32⟩
  | .hbm, ⟨1, _⟩ => ⟨S100000x128, .f32⟩
  | .hbm, ⟨2, _⟩ => ⟨S4096x200, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S819200, .i32⟩
  | .hbm, ⟨8, _⟩ => ⟨S4096x128, .f32⟩
  | .hbm, ⟨9, _⟩ => ⟨S128x256, .f32⟩
  | .hbm, ⟨10, _⟩ => ⟨S128x256, .f32⟩
  | .hbm, ⟨11, _⟩ => ⟨S1x256, .f32⟩
  | .hbm, ⟨12, _⟩ => ⟨S1x128, .f32⟩
  | .hbm, ⟨13, _⟩ => ⟨S4096x128, .f32⟩
  | .local .tc .vmem, ⟨0, _⟩ => ⟨S1024x128, .f32⟩
  | .local .tc .vmem, ⟨1, _⟩ => ⟨S1024x128, .f32⟩
  | .local .tc .vmem, ⟨2, _⟩ => ⟨S1024x128, .f32⟩
  | .local .tc .vmem, ⟨3, _⟩ => ⟨S1024x128, .f32⟩
  | .local .tc .vmem, ⟨4, _⟩ => ⟨S128x256, .f32⟩
  | .local .tc .vmem, ⟨5, _⟩ => ⟨S128x256, .f32⟩
  | .local .tc .vmem, ⟨6, _⟩ => ⟨S1x256, .f32⟩
  | .local .tc .vmem, ⟨7, _⟩ => ⟨S256x128, .f32⟩
  | .local .tc .vmem, ⟨8, _⟩ => ⟨S1x128, .f32⟩
  | .local .tc .vmem, ⟨9, _⟩ => ⟨S1024x128, .f32⟩
  | .local .tc .vmem, ⟨10, _⟩ => ⟨S1024x128, .f32⟩
  | .local .scVector .vmem, ⟨0, _⟩ => ⟨S25600, .i32⟩
  | .local .scVector .vmem, ⟨1, _⟩ => ⟨S4x104x128, .f32⟩
  | .local .scVector .vmem, ⟨2, _⟩ => ⟨S128x128, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v0_scv : Ref sig .scVector := ⟨.hbm, 7, rfl⟩
abbrev main_arg1_scv : Ref sig .scVector := ⟨.hbm, 1, rfl⟩
abbrev main_v1_scv : Ref sig .scVector := ⟨.hbm, 8, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg3_0 : Ref sig .tc := ⟨.vmem, 5, rfl⟩
abbrev cc1_stg4_0 : Ref sig .tc := ⟨.vmem, 6, rfl⟩
abbrev cc1_stg5_0 : Ref sig .tc := ⟨.vmem, 7, rfl⟩
abbrev cc1_stg6_0 : Ref sig .tc := ⟨.vmem, 8, rfl⟩
abbrev cc1_stg7_0 : Ref sig .tc := ⟨.vmem, 9, rfl⟩
abbrev cc1_stg7_1 : Ref sig .tc := ⟨.vmem, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c200_i32 : BitVec 32 := 200#32
  let v3 : BitVec 32 := Scalar.muli v2 c200_i32
  ![v3.toNat]
@[reducible] def k0_t1_loop : Scf.Loop 32 :=
  let c0_i32_20 : BitVec 32 := 0#32
  let c64_i32 : BitVec 32 := 64#32
  let v20 : BitVec 32 := Scalar.addi c0_i32_20 c64_i32
  let c1_i32_21 : BitVec 32 := 1#32
  ⟨c0_i32_20, v20, c1_i32_21⟩
def k0_off2 (k0_t1 : Fin k0_t1_loop.trips) (c0_i32_24 : BitVec 32) : Fin 1 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let c200_i32_33 : BitVec 32 := 200#32
  let v31 : BitVec 32 := Scalar.muli v22 c200_i32_33
  let c0_i32_34 : BitVec 32 := 0#32
  let v32 : BitVec 32 := Scalar.addi v31 c0_i32_34
  ![v32.toNat]
@[reducible] def k0_t2_loop : Scf.Loop 32 :=
  let c0_i32_40 : BitVec 32 := 0#32
  let c96_i32_41 : BitVec 32 := 96#32
  let v37 : BitVec 32 := Scalar.addi c0_i32_40 c96_i32_41
  let c1_i32_42 : BitVec 32 := 1#32
  ⟨c0_i32_40, v37, c1_i32_42⟩
def k0_off3 (k0_t2 : Fin k0_t2_loop.trips) : Fin 3 → Nat :=
  let c0_i32_101 : BitVec 32 := 0#32
  let v181 : Index := Scalar.indexCast c0_i32_101
  let c0_i32_40 : BitVec 32 := 0#32
  let c1_i32_42 : BitVec 32 := 1#32
  let arg13 : BitVec 32 := Scf.iv c0_i32_40 c1_i32_42 k0_t2
  let v182 : Index := Scalar.indexCast arg13
  let c0_102 : Index := 0#32
  ![0, v182.toNat, 0]
def k0_off4 (k0_t2 : Fin k0_t2_loop.trips) : Fin 3 → Nat :=
  let c0_i32_103 : BitVec 32 := 0#32
  let v186 : Index := Scalar.indexCast c0_i32_103
  let c0_i32_40 : BitVec 32 := 0#32
  let c1_i32_42 : BitVec 32 := 1#32
  let arg13 : BitVec 32 := Scf.iv c0_i32_40 c1_i32_42 k0_t2
  let v187 : Index := Scalar.indexCast arg13
  let c16_104 : Index := 16#32
  ![0, v187.toNat, 16]
def k0_off5 (k0_t2 : Fin k0_t2_loop.trips) : Fin 3 → Nat :=
  let c0_i32_105 : BitVec 32 := 0#32
  let v191 : Index := Scalar.indexCast c0_i32_105
  let c0_i32_40 : BitVec 32 := 0#32
  let c1_i32_42 : BitVec 32 := 1#32
  let arg13 : BitVec 32 := Scf.iv c0_i32_40 c1_i32_42 k0_t2
  let v192 : Index := Scalar.indexCast arg13
  let c32_106 : Index := 32#32
  ![0, v192.toNat, 32]
def k0_off6 (k0_t2 : Fin k0_t2_loop.trips) : Fin 3 → Nat :=
  let c0_i32_107 : BitVec 32 := 0#32
  let v196 : Index := Scalar.indexCast c0_i32_107
  let c0_i32_40 : BitVec 32 := 0#32
  let c1_i32_42 : BitVec 32 := 1#32
  let arg13 : BitVec 32 := Scf.iv c0_i32_40 c1_i32_42 k0_t2
  let v197 : Index := Scalar.indexCast arg13
  let c48_108 : Index := 48#32
  ![0, v197.toNat, 48]
def k0_off7 (k0_t2 : Fin k0_t2_loop.trips) : Fin 3 → Nat :=
  let c0_i32_109 : BitVec 32 := 0#32
  let v201 : Index := Scalar.indexCast c0_i32_109
  let c0_i32_40 : BitVec 32 := 0#32
  let c1_i32_42 : BitVec 32 := 1#32
  let arg13 : BitVec 32 := Scf.iv c0_i32_40 c1_i32_42 k0_t2
  let v202 : Index := Scalar.indexCast arg13
  let c64_110 : Index := 64#32
  ![0, v202.toNat, 64]
def k0_off8 (k0_t2 : Fin k0_t2_loop.trips) : Fin 3 → Nat :=
  let c0_i32_111 : BitVec 32 := 0#32
  let v206 : Index := Scalar.indexCast c0_i32_111
  let c0_i32_40 : BitVec 32 := 0#32
  let c1_i32_42 : BitVec 32 := 1#32
  let arg13 : BitVec 32 := Scf.iv c0_i32_40 c1_i32_42 k0_t2
  let v207 : Index := Scalar.indexCast arg13
  let c80_112 : Index := 80#32
  ![0, v207.toNat, 80]
def k0_off9 (k0_t2 : Fin k0_t2_loop.trips) : Fin 3 → Nat :=
  let c0_i32_113 : BitVec 32 := 0#32
  let v211 : Index := Scalar.indexCast c0_i32_113
  let c0_i32_40 : BitVec 32 := 0#32
  let c1_i32_42 : BitVec 32 := 1#32
  let arg13 : BitVec 32 := Scf.iv c0_i32_40 c1_i32_42 k0_t2
  let v212 : Index := Scalar.indexCast arg13
  let c96_114 : Index := 96#32
  ![0, v212.toNat, 96]
def k0_off10 (k0_t2 : Fin k0_t2_loop.trips) : Fin 3 → Nat :=
  let c0_i32_115 : BitVec 32 := 0#32
  let v216 : Index := Scalar.indexCast c0_i32_115
  let c0_i32_40 : BitVec 32 := 0#32
  let c1_i32_42 : BitVec 32 := 1#32
  let arg13 : BitVec 32 := Scf.iv c0_i32_40 c1_i32_42 k0_t2
  let v217 : Index := Scalar.indexCast arg13
  let c112_116 : Index := 112#32
  ![0, v217.toNat, 112]
def k0_cond1 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c63_i32 : BitVec 32 := 63#32
  let v39 : BitVec 1 := Scalar.cmpi .slt arg12 c63_i32
  let v40 : BitVec 32 := Scalar.extui v39
  let c0_i32_44 : BitVec 32 := 0#32
  let v41 : BitVec 1 := Scalar.cmpi .ne v40 c0_i32_44
  v41

def k0_off11 (k0_t1 : Fin k0_t1_loop.trips) : Fin 1 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let c0_i32_24 : BitVec 32 := 0#32
  let v22 : BitVec 32 := Scalar.addi v21 c0_i32_24
  let c2_i32_101 : BitVec 32 := 2#32
  let v181 : BitVec 32 := Scalar.addi v22 c2_i32_101
  let c200_i32_102 : BitVec 32 := 200#32
  let v182 : BitVec 32 := Scalar.muli v181 c200_i32_102
  let c0_i32_103 : BitVec 32 := 0#32
  let v183 : BitVec 32 := Scalar.addi v182 c0_i32_103
  ![v183.toNat]
def k0_off12 (k0_t1 : Fin k0_t1_loop.trips) (c0_i32_24 : BitVec 32) : Fin 1 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let c200_i32_45 : BitVec 32 := 200#32
  let v42 : BitVec 32 := Scalar.muli v22 c200_i32_45
  let c96_i32_46 : BitVec 32 := 96#32
  let v43 : BitVec 32 := Scalar.addi v42 c96_i32_46
  ![v43.toNat]
@[reducible] def k0_t3_loop : Scf.Loop 32 :=
  let c0_i32_52 : BitVec 32 := 0#32
  let c104_i32 : BitVec 32 := 104#32
  let v48 : BitVec 32 := Scalar.addi c0_i32_52 c104_i32
  let c1_i32_53 : BitVec 32 := 1#32
  ⟨c0_i32_52, v48, c1_i32_53⟩
def k0_off13 (k0_t3 : Fin k0_t3_loop.trips) : Fin 3 → Nat :=
  let c1_i32_101 : BitVec 32 := 1#32
  let v181 : Index := Scalar.indexCast c1_i32_101
  let c0_i32_52 : BitVec 32 := 0#32
  let c1_i32_53 : BitVec 32 := 1#32
  let arg13 : BitVec 32 := Scf.iv c0_i32_52 c1_i32_53 k0_t3
  let v182 : Index := Scalar.indexCast arg13
  let c0_102 : Index := 0#32
  ![1, v182.toNat, 0]
def k0_off14 (k0_t3 : Fin k0_t3_loop.trips) : Fin 3 → Nat :=
  let c1_i32_103 : BitVec 32 := 1#32
  let v186 : Index := Scalar.indexCast c1_i32_103
  let c0_i32_52 : BitVec 32 := 0#32
  let c1_i32_53 : BitVec 32 := 1#32
  let arg13 : BitVec 32 := Scf.iv c0_i32_52 c1_i32_53 k0_t3
  let v187 : Index := Scalar.indexCast arg13
  let c16_104 : Index := 16#32
  ![1, v187.toNat, 16]
def k0_off15 (k0_t3 : Fin k0_t3_loop.trips) : Fin 3 → Nat :=
  let c1_i32_105 : BitVec 32 := 1#32
  let v191 : Index := Scalar.indexCast c1_i32_105
  let c0_i32_52 : BitVec 32 := 0#32
  let c1_i32_53 : BitVec 32 := 1#32
  let arg13 : BitVec 32 := Scf.iv c0_i32_52 c1_i32_53 k0_t3
  let v192 : Index := Scalar.indexCast arg13
  let c32_106 : Index := 32#32
  ![1, v192.toNat, 32]
def k0_off16 (k0_t3 : Fin k0_t3_loop.trips) : Fin 3 → Nat :=
  let c1_i32_107 : BitVec 32 := 1#32
  let v196 : Index := Scalar.indexCast c1_i32_107
  let c0_i32_52 : BitVec 32 := 0#32
  let c1_i32_53 : BitVec 32 := 1#32
  let arg13 : BitVec 32 := Scf.iv c0_i32_52 c1_i32_53 k0_t3
  let v197 : Index := Scalar.indexCast arg13
  let c48_108 : Index := 48#32
  ![1, v197.toNat, 48]
def k0_off17 (k0_t3 : Fin k0_t3_loop.trips) : Fin 3 → Nat :=
  let c1_i32_109 : BitVec 32 := 1#32
  let v201 : Index := Scalar.indexCast c1_i32_109
  let c0_i32_52 : BitVec 32 := 0#32
  let c1_i32_53 : BitVec 32 := 1#32
  let arg13 : BitVec 32 := Scf.iv c0_i32_52 c1_i32_53 k0_t3
  let v202 : Index := Scalar.indexCast arg13
  let c64_110 : Index := 64#32
  ![1, v202.toNat, 64]
def k0_off18 (k0_t3 : Fin k0_t3_loop.trips) : Fin 3 → Nat :=
  let c1_i32_111 : BitVec 32 := 1#32
  let v206 : Index := Scalar.indexCast c1_i32_111
  let c0_i32_52 : BitVec 32 := 0#32
  let c1_i32_53 : BitVec 32 := 1#32
  let arg13 : BitVec 32 := Scf.iv c0_i32_52 c1_i32_53 k0_t3
  let v207 : Index := Scalar.indexCast arg13
  let c80_112 : Index := 80#32
  ![1, v207.toNat, 80]
def k0_off19 (k0_t3 : Fin k0_t3_loop.trips) : Fin 3 → Nat :=
  let c1_i32_113 : BitVec 32 := 1#32
  let v211 : Index := Scalar.indexCast c1_i32_113
  let c0_i32_52 : BitVec 32 := 0#32
  let c1_i32_53 : BitVec 32 := 1#32
  let arg13 : BitVec 32 := Scf.iv c0_i32_52 c1_i32_53 k0_t3
  let v212 : Index := Scalar.indexCast arg13
  let c96_114 : Index := 96#32
  ![1, v212.toNat, 96]
def k0_off20 (k0_t3 : Fin k0_t3_loop.trips) : Fin 3 → Nat :=
  let c1_i32_115 : BitVec 32 := 1#32
  let v216 : Index := Scalar.indexCast c1_i32_115
  let c0_i32_52 : BitVec 32 := 0#32
  let c1_i32_53 : BitVec 32 := 1#32
  let arg13 : BitVec 32 := Scf.iv c0_i32_52 c1_i32_53 k0_t3
  let v217 : Index := Scalar.indexCast arg13
  let c112_116 : Index := 112#32
  ![1, v217.toNat, 112]
def k0_cond2 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c63_i32_55 : BitVec 32 := 63#32
  let v50 : BitVec 1 := Scalar.cmpi .slt arg12 c63_i32_55
  let v51 : BitVec 32 := Scalar.extui v50
  let c0_i32_56 : BitVec 32 := 0#32
  let v52 : BitVec 1 := Scalar.cmpi .ne v51 c0_i32_56
  v52

def k0_off21 (k0_t1 : Fin k0_t1_loop.trips) : Fin 1 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let c0_i32_24 : BitVec 32 := 0#32
  let v22 : BitVec 32 := Scalar.addi v21 c0_i32_24
  let c2_i32_101 : BitVec 32 := 2#32
  let v181 : BitVec 32 := Scalar.addi v22 c2_i32_101
  let c200_i32_102 : BitVec 32 := 200#32
  let v182 : BitVec 32 := Scalar.muli v181 c200_i32_102
  let c96_i32_103 : BitVec 32 := 96#32
  let v183 : BitVec 32 := Scalar.addi v182 c96_i32_103
  ![v183.toNat]
def k0_off22 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v55 : Index := Scalar.indexCast v22
  let c0 : Index := 0#32
  ![v55.toNat, 0]
def k0_off23 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v61 : Index := Scalar.indexCast v22
  let c16 : Index := 16#32
  ![v61.toNat, 16]
def k0_off24 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v67 : Index := Scalar.indexCast v22
  let c32 : Index := 32#32
  ![v67.toNat, 32]
def k0_off25 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v73 : Index := Scalar.indexCast v22
  let c48 : Index := 48#32
  ![v73.toNat, 48]
def k0_off26 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v79 : Index := Scalar.indexCast v22
  let c64 : Index := 64#32
  ![v79.toNat, 64]
def k0_off27 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v85 : Index := Scalar.indexCast v22
  let c80 : Index := 80#32
  ![v85.toNat, 80]
def k0_off28 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v91 : Index := Scalar.indexCast v22
  let c96 : Index := 96#32
  ![v91.toNat, 96]
def k0_off29 (k0_t1 : Fin k0_t1_loop.trips) (c0_i32_24 : BitVec 32) : Fin 2 → Nat :=
  let c2_i32_23 : BitVec 32 := 2#32
  let c0_i32_20 : BitVec 32 := 0#32
  let c1_i32_21 : BitVec 32 := 1#32
  let arg12 : BitVec 32 := Scf.iv c0_i32_20 c1_i32_21 k0_t1
  let v21 : BitVec 32 := Scalar.muli c2_i32_23 arg12
  let v22 : BitVec 32 := Scalar.addi v21 c0_i32_24
  let v97 : Index := Scalar.indexCast v22
  let c112 : Index := 112#32
  ![v97.toNat, 112]
@[reducible] def k0_t4_loop : Scf.Loop 32 :=
  let c0_i32_74 : BitVec 32 := 0#32
  let c96_i32_75 : BitVec 32 := 96#32
  let v117 : BitVec 32 := Scalar.addi c0_i32_74 c96_i32_75
  let c1_i32_76 : BitVec 32 := 1#32
  ⟨c0_i32_74, v117, c1_i32_76⟩
def k0_off30 (k0_t4 : Fin k0_t4_loop.trips) : Fin 3 → Nat :=
  let c2_i32_101 : BitVec 32 := 2#32
  let v181 : Index := Scalar.indexCast c2_i32_101
  let c0_i32_74 : BitVec 32 := 0#32
  let c1_i32_76 : BitVec 32 := 1#32
  let arg13 : BitVec 32 := Scf.iv c0_i32_74 c1_i32_76 k0_t4
  let v182 : Index := Scalar.indexCast arg13
  let c0_102 : Index := 0#32
  ![2, v182.toNat, 0]
def k0_off31 (k0_t4 : Fin k0_t4_loop.trips) : Fin 3 → Nat :=
  let c2_i32_103 : BitVec 32 := 2#32
  let v186 : Index := Scalar.indexCast c2_i32_103
  let c0_i32_74 : BitVec 32 := 0#32
  let c1_i32_76 : BitVec 32 := 1#32
  let arg13 : BitVec 32 := Scf.iv c0_i32_74 c1_i32_76 k0_t4
  let v187 : Index := Scalar.indexCast arg13
  let c16_104 : Index := 16#32
  ![2, v187.toNat, 16]
def k0_off32 (k0_t4 : Fin k0_t4_loop.trips) : Fin 3 → Nat :=
  let c2_i32_105 : BitVec 32 := 2#32
  let v191 : Index := Scalar.indexCast c2_i32_105
  let c0_i32_74 : BitVec 32 := 0#32
  let c1_i32_76 : BitVec 32 := 1#32
  let arg13 : BitVec 32 := Scf.iv c0_i32_74 c1_i32_76 k0_t4
  let v192 : Index := Scalar.indexCast arg13
  let c32_106 : Index := 32#32
  ![2, v192.toNat, 32]
def k0_off33 (k0_t4 : Fin k0_t4_loop.trips) : Fin 3 → Nat :=
  let c2_i32_107 : BitVec 32 := 2#32
  let v196 : Index := Scalar.indexCast c2_i32_107
  let c0_i32_74 : BitVec 32 := 0#32
  let c1_i32_76 : BitVec 32 := 1#32
  let arg13 : BitVec 32 := Scf.iv c0_i32_74 c1_i32_76 k0_t4
  let v197 : Index := Scalar.indexCast arg13
  let c48_108 : Index := 48#32
  ![2, v197.toNat, 48]
def k0_off34 (k0_t4 : Fin k0_t4_loop.trips) : Fin 3 → Nat :=
  let c2_i32_109 : BitVec 32 := 2#32
  let v201 : Index := Scalar.indexCast c2_i32_109
  let c0_i32_74 : BitVec 32 := 0#32
  let c1_i32_76 : BitVec 32 := 1#32
  let arg13 : BitVec 32 := Scf.iv c0_i32_74 c1_i32_76 k0_t4
  let v202 : Index := Scalar.indexCast arg13
  let c64_110 : Index := 64#32
  ![2, v202.toNat, 64]
def k0_off35 (k0_t4 : Fin k0_t4_loop.trips) : Fin 3 → Nat :=
  let c2_i32_111 : BitVec 32 := 2#32
  let v206 : Index := Scalar.indexCast c2_i32_111
  let c0_i32_74 : BitVec 32 := 0#32
  let c1_i32_76 : BitVec 32 := 1#32
  let arg13 : BitVec 32 := Scf.iv c0_i32_74 c1_i32_76 k0_t4
  let v207 : Index := Scalar.indexCast arg13
  let c80_112 : Index := 80#32
  ![2, v207.toNat, 80]
def k0_off36 (k0_t4 : Fin k0_t4_loop.trips) : Fin 3 → Nat :=
  let c2_i32_113 : BitVec 32 := 2#32
  let v211 : Index := Scalar.indexCast c2_i32_113
  let c0_i32_74 : BitVec 32 := 0#32
  let c1_i32_76 : BitVec 32 := 1#32
  let arg13 : BitVec 32 := Scf.iv c0_i32_74 c1_i32_76 k0_t4
  let v212 : Index := Scalar.indexCast arg13
  let c96_114 : Index := 96#32
  ![2, v212.toNat, 96]
def k0_off37 (k0_t4 : Fin k0_t4_loop.trips) : Fin 3 → Nat :=
  let c2_i32_115 : BitVec 32 := 2#32
  let v216 : Index := Scalar.indexCast c2_i32_115
  let c0_i32_74 : BitVec 32 := 0#32
  let c1_i32_76 : BitVec 32 := 1#32
  let arg13 : BitVec 32 := Scf.iv c0_i32_74 c1_i32_76 k0_t4
  let v217 : Index := Scalar.indexCast arg13
  let c112_116 : Index := 112#32
  ![2, v217.toNat, 112]
def k0_cond3 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c63_i32_78 : BitVec 32 := 63#32
  let v119 : BitVec 1 := Scalar.cmpi .slt arg12 c63_i32_78
  let v120 : BitVec 32 := Scalar.extui v119
  let c0_i32_79 : BitVec 32 := 0#32
  let v121 : BitVec 1 := Scalar.cmpi .ne v120 c0_i32_79
  v121

def k0_off38 (k0_t1 : Fin k0_t1_loop.trips) : Fin 1 → Nat :=
  let c2_i32_57 : BitVec 32 := 2#32
  let c0_i32_20 : BitVec 32 := 0#32
  let c1_i32_21 : BitVec 32 := 1#32
  let arg12 : BitVec 32 := Scf.iv c0_i32_20 c1_i32_21 k0_t1
  let v101 : BitVec 32 := Scalar.muli c2_i32_57 arg12
  let c1_i32_58 : BitVec 32 := 1#32
  let v102 : BitVec 32 := Scalar.addi v101 c1_i32_58
  let c2_i32_101 : BitVec 32 := 2#32
  let v181 : BitVec 32 := Scalar.addi v102 c2_i32_101
  let c200_i32_102 : BitVec 32 := 200#32
  let v182 : BitVec 32 := Scalar.muli v181 c200_i32_102
  let c0_i32_103 : BitVec 32 := 0#32
  let v183 : BitVec 32 := Scalar.addi v182 c0_i32_103
  ![v183.toNat]
@[reducible] def k0_t5_loop : Scf.Loop 32 :=
  let c0_i32_87 : BitVec 32 := 0#32
  let c104_i32_88 : BitVec 32 := 104#32
  let v128 : BitVec 32 := Scalar.addi c0_i32_87 c104_i32_88
  let c1_i32_89 : BitVec 32 := 1#32
  ⟨c0_i32_87, v128, c1_i32_89⟩
def k0_off39 (k0_t5 : Fin k0_t5_loop.trips) : Fin 3 → Nat :=
  let c3_i32_101 : BitVec 32 := 3#32
  let v181 : Index := Scalar.indexCast c3_i32_101
  let c0_i32_87 : BitVec 32 := 0#32
  let c1_i32_89 : BitVec 32 := 1#32
  let arg13 : BitVec 32 := Scf.iv c0_i32_87 c1_i32_89 k0_t5
  let v182 : Index := Scalar.indexCast arg13
  let c0_102 : Index := 0#32
  ![3, v182.toNat, 0]
def k0_off40 (k0_t5 : Fin k0_t5_loop.trips) : Fin 3 → Nat :=
  let c3_i32_103 : BitVec 32 := 3#32
  let v186 : Index := Scalar.indexCast c3_i32_103
  let c0_i32_87 : BitVec 32 := 0#32
  let c1_i32_89 : BitVec 32 := 1#32
  let arg13 : BitVec 32 := Scf.iv c0_i32_87 c1_i32_89 k0_t5
  let v187 : Index := Scalar.indexCast arg13
  let c16_104 : Index := 16#32
  ![3, v187.toNat, 16]
def k0_off41 (k0_t5 : Fin k0_t5_loop.trips) : Fin 3 → Nat :=
  let c3_i32_105 : BitVec 32 := 3#32
  let v191 : Index := Scalar.indexCast c3_i32_105
  let c0_i32_87 : BitVec 32 := 0#32
  let c1_i32_89 : BitVec 32 := 1#32
  let arg13 : BitVec 32 := Scf.iv c0_i32_87 c1_i32_89 k0_t5
  let v192 : Index := Scalar.indexCast arg13
  let c32_106 : Index := 32#32
  ![3, v192.toNat, 32]
def k0_off42 (k0_t5 : Fin k0_t5_loop.trips) : Fin 3 → Nat :=
  let c3_i32_107 : BitVec 32 := 3#32
  let v196 : Index := Scalar.indexCast c3_i32_107
  let c0_i32_87 : BitVec 32 := 0#32
  let c1_i32_89 : BitVec 32 := 1#32
  let arg13 : BitVec 32 := Scf.iv c0_i32_87 c1_i32_89 k0_t5
  let v197 : Index := Scalar.indexCast arg13
  let c48_108 : Index := 48#32
  ![3, v197.toNat, 48]
def k0_off43 (k0_t5 : Fin k0_t5_loop.trips) : Fin 3 → Nat :=
  let c3_i32_109 : BitVec 32 := 3#32
  let v201 : Index := Scalar.indexCast c3_i32_109
  let c0_i32_87 : BitVec 32 := 0#32
  let c1_i32_89 : BitVec 32 := 1#32
  let arg13 : BitVec 32 := Scf.iv c0_i32_87 c1_i32_89 k0_t5
  let v202 : Index := Scalar.indexCast arg13
  let c64_110 : Index := 64#32
  ![3, v202.toNat, 64]
def k0_off44 (k0_t5 : Fin k0_t5_loop.trips) : Fin 3 → Nat :=
  let c3_i32_111 : BitVec 32 := 3#32
  let v206 : Index := Scalar.indexCast c3_i32_111
  let c0_i32_87 : BitVec 32 := 0#32
  let c1_i32_89 : BitVec 32 := 1#32
  let arg13 : BitVec 32 := Scf.iv c0_i32_87 c1_i32_89 k0_t5
  let v207 : Index := Scalar.indexCast arg13
  let c80_112 : Index := 80#32
  ![3, v207.toNat, 80]
def k0_off45 (k0_t5 : Fin k0_t5_loop.trips) : Fin 3 → Nat :=
  let c3_i32_113 : BitVec 32 := 3#32
  let v211 : Index := Scalar.indexCast c3_i32_113
  let c0_i32_87 : BitVec 32 := 0#32
  let c1_i32_89 : BitVec 32 := 1#32
  let arg13 : BitVec 32 := Scf.iv c0_i32_87 c1_i32_89 k0_t5
  let v212 : Index := Scalar.indexCast arg13
  let c96_114 : Index := 96#32
  ![3, v212.toNat, 96]
def k0_off46 (k0_t5 : Fin k0_t5_loop.trips) : Fin 3 → Nat :=
  let c3_i32_115 : BitVec 32 := 3#32
  let v216 : Index := Scalar.indexCast c3_i32_115
  let c0_i32_87 : BitVec 32 := 0#32
  let c1_i32_89 : BitVec 32 := 1#32
  let arg13 : BitVec 32 := Scf.iv c0_i32_87 c1_i32_89 k0_t5
  let v217 : Index := Scalar.indexCast arg13
  let c112_116 : Index := 112#32
  ![3, v217.toNat, 112]
def k0_cond4 (k0_t1 : Fin k0_t1_loop.trips) : BitVec 1 :=
  let c0_i32_20 : BitVec 32 := 0#32
  let c1_i32_21 : BitVec 32 := 1#32
  let arg12 : BitVec 32 := Scf.iv c0_i32_20 c1_i32_21 k0_t1
  let c63_i32_91 : BitVec 32 := 63#32
  let v130 : BitVec 1 := Scalar.cmpi .slt arg12 c63_i32_91
  let v131 : BitVec 32 := Scalar.extui v130
  let c0_i32_92 : BitVec 32 := 0#32
  let v132 : BitVec 1 := Scalar.cmpi .ne v131 c0_i32_92
  v132

def k0_off47 (k0_t1 : Fin k0_t1_loop.trips) : Fin 1 → Nat :=
  let c2_i32_57 : BitVec 32 := 2#32
  let c0_i32_20 : BitVec 32 := 0#32
  let c1_i32_21 : BitVec 32 := 1#32
  let arg12 : BitVec 32 := Scf.iv c0_i32_20 c1_i32_21 k0_t1
  let v101 : BitVec 32 := Scalar.muli c2_i32_57 arg12
  let c1_i32_58 : BitVec 32 := 1#32
  let v102 : BitVec 32 := Scalar.addi v101 c1_i32_58
  let c2_i32_101 : BitVec 32 := 2#32
  let v181 : BitVec 32 := Scalar.addi v102 c2_i32_101
  let c200_i32_102 : BitVec 32 := 200#32
  let v182 : BitVec 32 := Scalar.muli v181 c200_i32_102
  let c96_i32_103 : BitVec 32 := 96#32
  let v183 : BitVec 32 := Scalar.addi v182 c96_i32_103
  ![v183.toNat]
def k0_off48 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_23_r1 : BitVec 32 := 0#32
  ![v2.toNat, 0]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_m" => some ((200⁻¹ : ℝ) : EReal)
  | _ => none
-- ==== ReferenceIdeal.lean ====
abbrev S4096x128 : Shape := ⟨2, ![4096, 128]⟩
abbrev S100000x128 : Shape := ⟨2, ![100000, 128]⟩
abbrev S4096x200 : Shape := ⟨2, ![4096, 200]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x128 : Shape := ⟨3, ![4096, 200, 128]⟩
abbrev S4096x1 : Shape := ⟨2, ![4096, 1]⟩
abbrev S4096x256 : Shape := ⟨2, ![4096, 256]⟩
abbrev S1x256 : Shape := ⟨2, ![1, 256]⟩
abbrev S1x128 : Shape := ⟨2, ![1, 128]⟩

abbrev nBuf : Space → Nat
  | .hbm => 62
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S4096x200, .i32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S_, .i32⟩
  | .hbm, ⟨8, _⟩ => ⟨S4096x200, .i32⟩
  | .hbm, ⟨9, _⟩ => ⟨S4096x200, .i1⟩
  | .hbm, ⟨10, _⟩ => ⟨S_, .i32⟩
  | .hbm, ⟨11, _⟩ => ⟨S_, .i32⟩
  | .hbm, ⟨12, _⟩ => ⟨S4096x200, .i32⟩
  | .hbm, ⟨13, _⟩ => ⟨S4096x200, .i32⟩
  | .hbm, ⟨14, _⟩ => ⟨S_, .i32⟩
  | .hbm, ⟨15, _⟩ => ⟨S4096x200, .i32⟩
  | .hbm, ⟨16, _⟩ => ⟨S4096x200, .i1⟩
  | .hbm, ⟨17, _⟩ => ⟨S_, .i32⟩
  | .hbm, ⟨18, _⟩ => ⟨S4096x200, .i32⟩
  | .hbm, ⟨19, _⟩ => ⟨S4096x200, .i32⟩
  | .hbm, ⟨20, _⟩ => ⟨S4096x200, .i32⟩
  | .hbm, ⟨21, _⟩ => ⟨S4096x200x1, .i32⟩
  | .hbm, ⟨22, _⟩ => ⟨S1, .i32⟩
  | .hbm, ⟨23, _⟩ => ⟨S_, .i32⟩
  | .hbm, ⟨24, _⟩ => ⟨S4096x200x1, .i32⟩
  | .hbm, ⟨25, _⟩ => ⟨S4096x200x1, .i1⟩
  | .hbm, ⟨26, _⟩ => ⟨S1x1x1, .i32⟩
  | .hbm, ⟨27, _⟩ => ⟨S4096x200x1, .i32⟩
  | .hbm, ⟨28, _⟩ => ⟨S4096x200x1, .i1⟩
  | .hbm, ⟨29, _⟩ => ⟨S4096x200x1, .i1⟩
  | .hbm, ⟨30, _⟩ => ⟨S_, .i1⟩
  | .hbm, ⟨31, _⟩ => ⟨S4096x200, .i1⟩
  | .hbm, ⟨32, _⟩ => ⟨S4096x200x128, .f32⟩
  | .hbm, ⟨33, _⟩ => ⟨S4096x200x128, .i1⟩
  | .hbm, ⟨34, _⟩ => ⟨S_, .f32⟩
  | .hbm, ⟨35, _⟩ => ⟨S4096x200x128, .f32⟩
  | .hbm, ⟨36, _⟩ => ⟨S4096x200x128, .f32⟩
  | .hbm, ⟨37, _⟩ => ⟨S4096x200, .f32⟩
  | .hbm, ⟨38, _⟩ => ⟨S4096x200x1, .f32⟩
  | .hbm, ⟨39, _⟩ => ⟨S4096x200x128, .f32⟩
  | .hbm, ⟨40, _⟩ => ⟨S4096x200x128, .f32⟩
  | .hbm, ⟨41, _⟩ => ⟨S_, .f32⟩
  | .hbm, ⟨42, _⟩ => ⟨S4096x128, .f32⟩
  | .hbm, ⟨43, _⟩ => ⟨S_, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S4096x128, .f32⟩
  | .hbm, ⟨49, _⟩ => ⟨S4096x128, .f32⟩
  | .hbm, ⟨50, _⟩ => ⟨S4096x256, .f32⟩
  | .hbm, ⟨51, _⟩ => ⟨S4096x256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096x256, .f32⟩
  | .hbm, ⟨57, _⟩ => ⟨S4096x256, .f32⟩
  | .hbm, ⟨58, _⟩ => ⟨S4096x128, .f32⟩
  | .hbm, ⟨59, _⟩ => ⟨S1x128, .f32⟩
  | .hbm, ⟨60, _⟩ => ⟨S4096x128, .f32⟩
  | .hbm, ⟨61, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_v14 : Ref sig .tc := ⟨.hbm, 33, rfl⟩
abbrev main_call1_cst : Ref sig .tc := ⟨.hbm, 34, rfl⟩
abbrev main_call1_v15 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_cst_1 : Ref sig .tc := ⟨.hbm, 43, rfl⟩
abbrev main_v9 : Ref sig .tc := ⟨.hbm, 44, rfl⟩
abbrev main_cst_2 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_cst_3 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩

abbrev nD : Nat := 1
abbrev τ : Topo := Topo.v7x

variable {F : FTy → Type} [FloatOps F]
-- ==== Proof.Values.lean ====
/-
  What the kernel's SparseCore call computes, as a function of the list of row numbers and of the table: row `x` of the
  result is the sum, over the 200 entries of the list that belong to `x`, of the table's rows at those entries, added one
  after another from zero, times one scale.
-/
module

public import Idealize.ShloMosaic.PureOps
public import Idealize.ShloMosaic.Lib.ValueIdx

@[expose] public section

noncomputable section

namespace Cert.Proof.Gather

open Idealize.ShloMosaic Idealize.ShloMosaic.ValueIdx

/-- The flat list of row numbers, the table and the result. -/
abbrev ListS : Shape := ⟨1, ![819200]⟩
abbrev TableS : Shape := ⟨2, ![100000, 128]⟩
abbrev OutS : Shape := ⟨2, ![4096, 128]⟩

variable {F : FTy → Type}

/-- Place `p` of the list (taken modulo its length, so that it is defined for every `p`). -/
def place (p : ℕ) : ListS.Idx := ix1 ⟨p % 819200, Nat.mod_lt _ (by decide)⟩

/-- The table row a word names (modulo the number of rows, so that it is defined for every word). -/
def rowOf (w : BitVec 32) : Fin 100000 := ⟨w.toNat % 100000, Nat.mod_lt _ (by decide)⟩

/-- Column `c` of the table row named at place `p` of the list. -/
def gat (iv : ListS.Idx → BitVec 32) (tb : TableS.Idx → F .f32) (p : ℕ) (c : Fin 128) : F .f32 :=
  tb (ix2 (rowOf (iv (place p))) c)

/-- The sum of `n` gathered rows from place `b` on, at column `c`. -/
def psum [FloatOps F] (iv : ListS.Idx → BitVec 32) (tb : TableS.Idx → F .f32) (b : ℕ) (c : Fin 128) : ℕ → F .f32
  | 0 => FloatOps.ofBits .f32 0x00000000#32
  | n + 1 => FloatOps.addf (psum iv tb b c n) (gat iv tb (b + n) c)

/-- The aggregated row: the sum of its 200 gathered rows, scaled. -/
def agg [FloatOps F] (scale : F .f32) (iv : ListS.Idx → BitVec 32) (tb : TableS.Idx → F .f32) : OutS.Idx → F .f32 :=
  fun x => FloatOps.mulf (psum iv tb (200 * (x 0).val) (x 1) 200) scale

/-- Every word of the list names a row of the table. -/
def InRange (iv : ListS.Idx → BitVec 32) : Prop := ∀ p, (iv p).toNat < 100000

end Cert.Proof.Gather
-- ==== Proof.Precondition.lean ====
/-
  What the precondition says of the indices: each names a row of the table.
-/
module

public import proofs.«01_k».proof.Pre_in_range
public import proofs.«01_k».proof.Proof.Gen.Pre_in_range
public import Idealize.ShloMosaic.Lib.ReduceAll
public import Idealize.ShloMosaic.Lib.ValueIdx

@[expose] public section

noncomputable section

namespace Cert.Proof.Gather

open Cert.Pre_in_range
open Idealize.ShloMosaic

instance : Subsingleton S_.Idx := ⟨fun a _ => funext fun i => i.elim0⟩

/-- A word that is, read signed, at least 0 and below 100000. -/
theorem word_lt (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The precondition, when it holds, at one index. -/
theorem index_lt {F : FTy → Type} [FloatOps F] [Facts] (a0 : FVec F S4096x128 .f32) (a1 : FVec F S100000x128 .f32) (a2 : IVec S4096x200 32) (a3 : FVec F S256x256 .f32)
    (a4 : FVec F S256 .f32) (a5 : FVec F S256x128 .f32) (a6 : FVec F S128 .f32) (h : fn a0 a1 a2 a3 a4 a5 a6 = fun _ => 1#1) (x : S4096x200.Idx) :
    (a2 x).toNat < 100000 := by
  have e := Host.reduce_andi_all _ _ _ _ ValueIdx.ix0 (congrFun h ValueIdx.ix0) x
  exact word_lt _ e

end Cert.Proof.Gather

end
-- ==== Proof.KernelIdeal.Setup.lean ====
/-
  The program as the launch theorem of the SparseCore calls sees it, the resource algebra of the proof, and the launch
  memory's buffers.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.FrameBody
public import Idealize.ShloMosaic.Lib.Pipeline.FrameTail
public import Idealize.ShloMosaic.Lib.Pipeline.ValueKit.Geometry
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes of the SparseCore call, -/
abbrev EH : Emb UH (MT nD τ sig (HIx 1) (Elt F) ℕ UU ℕ) := embL

/-- and the staging of the TensorCore call. -/
def EP : Emb UP (MT nD τ sig (HIx 1) (Elt F) ℕ UU ℕ) := (Emb.inl : Emb UP (UP × Counters)).trans embR

instance EP_landsIn : (EP (F := F)).LandsIn (upEmb : UEmb _ 𝕄) := by unfold EP; infer_instance

/-! ## The buffers -/

abbrev vLoc (d : Dev nD) : Loc nD τ sig := (SparseCore.T d).loc main_v0
abbrev xLoc (d : Dev nD) : Loc nD τ sig := (SparseCore.T d).loc main_arg1
abbrev oLoc (d : Dev nD) : Loc nD τ sig := (SparseCore.T d).loc main_v1

/-- The constant the kernel scales each sum by. -/
def scale : F .f32 := Named.named κ "inv_m" 0x3BA3D70A#32

/-- The physical SparseCore and subcore of a grid point. -/
abbrev cV (L : grid0.Coords) : Fin τ.nSC := (L 0).castLE hcore0
abbrev jV (L : grid0.Coords) : Fin τ.nSub := (L 1).castLE hsub0

/-- A grid point's number among the 32. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

end Cert.Proof.KernelIdeal
-- ==== Proof.KernelIdeal.Reduce.lean ====
/-
  The sum of a slot's rows: one trip of the loop reads a row of the slot in eight lanes and adds each to its
  accumulator; the loop adds all the slot's rows.
-/
module

public import proofs.«01_k».proof.Proof.KernelIdeal.Setup

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

/-- What a slot filled with the gathered rows from place `b` on holds: row `j` is the row named at place `b + j`. -/
def slotC (iv : ListS.Idx → BitVec 32) (tb : TableS.Idx → F .f32) (b : ℕ) : S4x104x128.Idx → F .f32 :=
  fun x => gat iv tb (b + (x 1).val) (x 2)

/-- Lane `k` of the sum of `n` rows from place `b` on. -/
def lane (iv : ListS.Idx → BitVec 32) (tb : TableS.Idx → F .f32) (b n : ℕ) (k : Fin 8) : FVec F S16 .f32 :=
  fun l => psum iv tb b ⟨16 * k.val + (l 0).val, by have h : (l 0).val < 16 := (l 0).isLt; omega⟩ n

/-- The eight accumulators. -/
abbrev Acc (F : FTy → Type) : Type :=
  FVec F S16 .f32 × FVec F S16 .f32 × FVec F S16 .f32 × FVec F S16 .f32 × FVec F S16 .f32 × FVec F S16 .f32 × FVec F S16 .f32 × FVec F S16 .f32

/-- The accumulators after `n` rows from place `b` on. -/
def accs (iv : ListS.Idx → BitVec 32) (tb : TableS.Idx → F .f32) (b n : ℕ) : Acc F :=
  (lane iv tb b n 0, lane iv tb b n 1, lane iv tb b n 2, lane iv tb b n 3, lane iv tb b n 4, lane iv tb b n 5, lane iv tb b n 6, lane iv tb b n 7)

/-- One accumulator after one more lane. -/
def addLane (a : FVec F S16 .f32) (v : Vec F S1x1x16 .f32) : FVec F S16 .f32 := addf a (shapeCast S16 v shapeCasts_S1x1x16_S16)

/-- The lane's one-axis index is the loaded block's last coordinate. -/
theorem cast_lane (l : S16.Idx) : Shape.reshapeEquiv (Eq.symm shapeCasts_S1x1x16_S16.symm) l = (ix3 0 0 (l 0) : S1x1x16.Idx) := by
  refine Shape.reshapeEquiv_eq_of_rowMajor _ ?_
  rw [Shape.rowMajor_val_three, Shape.rowMajor_val_one]
  simp

variable (d : Dev nD) (L : grid0.Coords)

/-- Reading one lane of one row of a buffer of which that row is held. -/
theorem wp_lane {o : Fin 3 → ℕ} {inb : ∀ a, o a + S1x1x16.size a ≤ S4x104x128.size a} (t : Fin 4) (j : Fin 104) (k : Fin 8)
    (ho : o = ![t.val, j.val, 16 * k.val]) {S : Finset S4x104x128.Idx} (hS : ∀ x : S4x104x128.Idx, x 0 = t → x 1 = j → x ∈ S)
    {f : S4x104x128.Idx → F .f32} {α : Type} {hl : (bV).view.LoadsAt (Rect.unit (s := S4x104x128) o S1x1x16.size inb).toLoadRect}
    {kk : Vec F S1x1x16 .f32 → Prog (TpuEff nD τ sig (Elt F) Λ₀ (V d (cV L) (jV L)).2) α} {Q : α → sProp 𝕄} :
    ((bV).view.loc (V d (cV L) (jV L)) ↦[S]{fullShare} f : sProp 𝕄)
      ⊢ iprop((((bV).view.loc (V d (cV L) (jV L)) ↦[S]{fullShare} f)
          -∗ wp frame (wpE (defs₀ (F := F)) 𝒱₀ (V d (cV L) (jV L)) none) Set.univ
            (kk fun x => f (ix3 t j ⟨16 * k.val + (x 2).val, by have h : (x 2).val < 16 := (x 2).isLt; omega⟩)) Q)
        -∗ wp frame (wpE (defs₀ (F := F)) 𝒱₀ (V d (cV L) (jV L)) none) Set.univ
            (.op (.load (bV) (Rect.unit (s := S4x104x128) o S1x1x16.size inb).toLoadRect hl) kk) Q) := by
  subst ho
  have hread : (bV).view.readAt (Elt F) (Rect.unit (s := S4x104x128) ![t.val, j.val, 16 * k.val] S1x1x16.size inb) f
      = fun x : S1x1x16.Idx => f (ix3 t j ⟨16 * k.val + (x 2).val, by have h : (x 2).val < 16 := (x 2).isLt; omega⟩) := by
    funext x
    refine congrArg f ?_
    funext a
    apply Fin.ext
    refine (ValueKit.rect_emb_unit_val _ _ inb x a).trans ?_
    have h0 : (x 0).val < 1 := (x 0).isLt
    have h1 : (x 1).val < 1 := (x 1).isLt
    match a with
    | 0 => show t.val + (x 0).val = t.val; omega
    | 1 => show j.val + (x 1).val = j.val; omega
    | 2 => rfl
  rw [← hread]
  refine wp_load 𝒱₀ _ none Set.univ ?_
  intro y hy
  obtain ⟨x, hx, rfl⟩ := Finset.mem_map.mp hy
  have hm := Rect.mem_set_unit.mp hx
  refine hS _ (Fin.ext ?_) (Fin.ext ?_)
  · have h : t.val ≤ (x 0).val ∧ (x 0).val < t.val + 1 := hm 0
    show (x 0).val = t.val; omega
  · have h : j.val ≤ (x 1).val ∧ (x 1).val < j.val + 1 := hm 1
    show (x 1).val = j.val; omega

/-- One trip of a summing loop: eight lanes of one row read, each added to its accumulator. -/
def sumTrip (o : Fin 8 → Fin 3 → ℕ) (h : ∀ n a, o n a + S1x1x16.size a ≤ S4x104x128.size a) (acc : Acc F) :
    Prog (TpuEff nD τ sig (Elt F) Λ₀ (.scVector (cV L) (jV L))) (Acc F) := do
  let v0 : Vec F S1x1x16 .f32 ← Prog.lift (.load (bV) (Rect.unit (s := S4x104x128) (o 0) S1x1x16.size (h 0)).toLoadRect (View.loadsAt_vmem h_S1x1x16))
  let v1 : Vec F S1x1x16 .f32 ← Prog.lift (.load (bV) (Rect.unit (s := S4x104x128) (o 1) S1x1x16.size (h 1)).toLoadRect (View.loadsAt_vmem h_S1x1x16))
  let v2 : Vec F S1x1x16 .f32 ← Prog.lift (.load (bV) (Rect.unit (s := S4x104x128) (o 2) S1x1x16.size (h 2)).toLoadRect (View.loadsAt_vmem h_S1x1x16))
  let v3 : Vec F S1x1x16 .f32 ← Prog.lift (.load (bV) (Rect.unit (s := S4x104x128) (o 3) S1x1x16.size (h 3)).toLoadRect (View.loadsAt_vmem h_S1x1x16))
  let v4 : Vec F S1x1x16 .f32 ← Prog.lift (.load (bV) (Rect.unit (s := S4x104x128) (o 4) S1x1x16.size (h 4)).toLoadRect (View.loadsAt_vmem h_S1x1x16))
  let v5 : Vec F S1x1x16 .f32 ← Prog.lift (.load (bV) (Rect.unit (s := S4x104x128) (o 5) S1x1x16.size (h 5)).toLoadRect (View.loadsAt_vmem h_S1x1x16))
  let v6 : Vec F S1x1x16 .f32 ← Prog.lift (.load (bV) (Rect.unit (s := S4x104x128) (o 6) S1x1x16.size (h 6)).toLoadRect (View.loadsAt_vmem h_S1x1x16))
  let v7 : Vec F S1x1x16 .f32 ← Prog.lift (.load (bV) (Rect.unit (s := S4x104x128) (o 7) S1x1x16.size (h 7)).toLoadRect (View.loadsAt_vmem h_S1x1x16))
  pure (addLane acc.1 v0, addLane acc.2.1 v1, addLane acc.2.2.1 v2, addLane acc.2.2.2.1 v3, addLane acc.2.2.2.2.1 v4,
    addLane acc.2.2.2.2.2.1 v5, addLane acc.2.2.2.2.2.2.1 v6, addLane acc.2.2.2.2.2.2.2 v7)

/-- One lane of the sum, one row further. -/
theorem addLane_lane (iv : ListS.Idx → BitVec 32) (tb : TableS.Idx → F .f32) (b p s : ℕ) (t : Fin 4) (j : Fin 104) (hs : s + j.val = b + p) (k : Fin 8) :
    addLane (lane iv tb b p k) (fun x : S1x1x16.Idx =>
        slotC iv tb s (ix3 t j ⟨16 * k.val + (x 2).val, by have h : (x 2).val < 16 := (x 2).isLt; omega⟩)) = lane iv tb b (p + 1) k := by
  funext l
  show FloatOps.addf _ (shapeCast S16 _ _ l) = FloatOps.addf _ _
  unfold shapeCast
  rw [cast_lane]
  show FloatOps.addf _ (gat iv tb (s + j.val) _) = _
  rw [hs]
  rfl

/-- One trip takes the accumulators one row further. -/
theorem wp_sumTrip (iv : ListS.Idx → BitVec 32) (tb : TableS.Idx → F .f32) (o : Fin 8 → Fin 3 → ℕ)
    (h : ∀ n a, o n a + S1x1x16.size a ≤ S4x104x128.size a) (t : Fin 4) (j : Fin 104)
    (ho : ∀ n : Fin 8, o n = ![t.val, j.val, 16 * n.val]) {S : Finset S4x104x128.Idx} (hS : ∀ x : S4x104x128.Idx, x 0 = t → x 1 = j → x ∈ S)
    (b p s : ℕ) (hs : s + j.val = b + p) :
    ((bV).view.loc (V d (cV L) (jV L)) ↦[S]{fullShare} slotC iv tb s : sProp 𝕄)
      ⊢ wp frame (wpE (defs₀ (F := F)) 𝒱₀ (V d (cV L) (jV L)) none) Set.univ (sumTrip L o h (accs iv tb b p))
          fun acc => iprop(⌜acc = accs iv tb b (p + 1)⌝ ∗ ((bV).view.loc (V d (cV L) (jV L)) ↦[S]{fullShare} slotC iv tb s)) := by
  unfold sumTrip
  simp only [Prog.lift, Prog.bind_op, Prog.bind_ret, Prog.pure_eq_ret, Prog.bind_assoc]
  iintro Hb
  iapply (wp_lane d L t j 0 (ho 0) hS) $$ Hb; iintro Hb
  iapply (wp_lane d L t j 1 (ho 1) hS) $$ Hb; iintro Hb
  iapply (wp_lane d L t j 2 (ho 2) hS) $$ Hb; iintro Hb
  iapply (wp_lane d L t j 3 (ho 3) hS) $$ Hb; iintro Hb
  iapply (wp_lane d L t j 4 (ho 4) hS) $$ Hb; iintro Hb
  iapply (wp_lane d L t j 5 (ho 5) hS) $$ Hb; iintro Hb
  iapply (wp_lane d L t j 6 (ho 6) hS) $$ Hb; iintro Hb
  iapply (wp_lane d L t j 7 (ho 7) hS) $$ Hb; iintro Hb
  simp only [accs, addLane_lane iv tb b p s t j hs]
  sl_step
  isplitr
  · ipureintro; rfl
  · iexact Hb

/-- A summing loop over the `n` rows of a filled slot takes the accumulators `n` rows further. -/
theorem wp_sumLoop (iv : ListS.Idx → BitVec 32) (tb : TableS.Idx → F .f32) (lp : Scf.Loop 32) (hok : lp.OK) (n : ℕ) (hn : lp.trips = n) (hn' : n ≤ 104)
    (body : Fin lp.trips → Acc F → Prog (TpuEff nD τ sig (Elt F) Λ₀ (.scVector (cV L) (jV L))) (Acc F))
    (o : Fin lp.trips → Fin 8 → Fin 3 → ℕ) (h : ∀ k n a, o k n a + S1x1x16.size a ≤ S4x104x128.size a)
    (hbody : ∀ k acc, body k acc = sumTrip L (o k) (h k) acc) (t : Fin 4)
    (ho : ∀ k (n : Fin 8), o k n = ![t.val, k.val, 16 * n.val]) {S : Finset S4x104x128.Idx} (hS : ∀ x : S4x104x128.Idx, x 0 = t → (x 1).val < n → x ∈ S)
    (b p s pn : ℕ) (hs : s = b + p) (hpn : p + n = pn) (init : Acc F) (hinit : init = accs iv tb b p) {α : Type} {kk : Acc F → Prog (TpuEff nD τ sig (Elt F) Λ₀ (.scVector (cV L) (jV L))) α} {Q : α → sProp 𝕄} :
    ((bV).view.loc (V d (cV L) (jV L)) ↦[S]{fullShare} slotC iv tb s : sProp 𝕄)
      ⊢ iprop((((bV).view.loc (V d (cV L) (jV L)) ↦[S]{fullShare} slotC iv tb s)
          -∗ wp frame (wpE (defs₀ (F := F)) 𝒱₀ (V d (cV L) (jV L)) none) Set.univ (kk (lane iv tb b pn 0, lane iv tb b pn 1, lane iv tb b pn 2, lane iv tb b pn 3,
              lane iv tb b pn 4, lane iv tb b pn 5, lane iv tb b pn 6, lane iv tb b pn 7)) Q)
        -∗ wp frame (wpE (defs₀ (F := F)) 𝒱₀ (V d (cV L) (jV L)) none) Set.univ (Scf.Loop.for lp hok init body >>= kk) Q) := by
  subst hinit hpn
  iintro Hb HK
  iapply (Scf.wp_for_bind frame (wpE (defs₀ (F := F)) 𝒱₀ (V d (cV L) (jV L)) none) Set.univ lp.lb lp.ub lp.st hok (accs iv tb b p) body
    (fun k acc => iprop(⌜acc = accs iv tb b (p + k)⌝ ∗ ((bV).view.loc (V d (cV L) (jV L)) ↦[S]{fullShare} slotC iv tb s))) ?_) $$ [Hb]
  · intro k acc
    iintro ⟨%e, Hb⟩
    subst e
    rw [hbody]
    have hk : k.val < n := hn ▸ k.isLt
    iapply (wp_sumTrip d L iv tb (o k) (h k) t ⟨k.val, by omega⟩ (ho k) (fun x h0 h1 => hS x h0 (by rw [h1]; exact hk)) b (p + k.val) s (by subst hs; simp; omega)) $$ Hb
  · isplitr
    · ipureintro; rfl
    · iexact Hb
  iintro %acc ⟨%e, Hb⟩
  subst e
  have hn2 : Scf.trips lp.lb lp.ub lp.st = n := hn
  rw [hn2]
  iapply HK; iexact Hb

end Cert.Proof.KernelIdeal
-- ==== Proof.KernelIdeal.Gather.lean ====
/-
  The gathers: a slot of the row buffer filled with the table's rows at a run of the tile's list.
-/
module

public import proofs.«01_k».proof.Proof.KernelIdeal.Reduce
public import Idealize.ShloMosaic.Lib.ValueLayout

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

/-- All of the table, as the gathers read it. -/
abbrev xAll : Memref sig .scVector .hbm S100000x128 .f32 :=
  (xV).slice (Rect.unit (s := S100000x128) ![0, 0] S100000x128.size inb_S100000x128_S100000x128_0_0) (fun _ => rfl)

/-- The first `n` rows of slot `t`. -/
abbrev slotV (t n : ℕ) (inb : ∀ a, (![t, 0, 0] : Fin 3 → ℕ) a + (⟨3, ![1, n, 128]⟩ : Shape).size a ≤ S4x104x128.size a)
    (sq : (⟨3, ![1, n, 128]⟩ : Shape).Squeezes ⟨2, ![n, 128]⟩) : Memref sig .scVector .vmem ⟨2, ![n, 128]⟩ .f32 :=
  ((bV).slice (Rect.unit (s := S4x104x128) ![t, 0, 0] (⟨3, ![1, n, 128]⟩ : Shape).size inb) (fun _ => rfl)).squeeze ⟨2, ![n, 128]⟩ sq

/-- A run of `n` words of the tile's list. -/
abbrev listV (n : ℕ) (o : Fin 1 → ℕ) (inb : ∀ a, o a + (⟨1, ![n]⟩ : Shape).size a ≤ S25600.size a) : Memref sig .scVector .vmem ⟨1, ![n]⟩ .i32 :=
  (sV).slice (Rect.unit (s := S25600) o (⟨1, ![n]⟩ : Shape).size inb) (fun _ => rfl)

/-- What tile `w`'s list holds: its 25600 words of the whole list. -/
def listC (iv : ListS.Idx → BitVec 32) (w : ℕ) : S25600.Idx → BitVec 32 := fun x => iv (place (25600 * w + (x 0).val))

section Slot

variable {t n : ℕ} {inb : ∀ a, (![t, 0, 0] : Fin 3 → ℕ) a + (⟨3, ![1, n, 128]⟩ : Shape).size a ≤ S4x104x128.size a}
  {sq : (⟨3, ![1, n, 128]⟩ : Shape).Squeezes ⟨2, ![n, 128]⟩}

theorem slotV_set : (slotV t n inb sq).view.set = (Rect.unit (s := S4x104x128) ![t, 0, 0] (⟨3, ![1, n, 128]⟩ : Shape).size inb).set := by
  show (((bV).view.slice (Rect.unit (s := S4x104x128) ![t, 0, 0] (⟨3, ![1, n, 128]⟩ : Shape).size inb)).reshape ⟨2, ![n, 128]⟩ sq.numel_eq).set = _
  rw [View.set_reshape, View.set_slice]
  exact Finset.map_refl

theorem mem_slotV {x : S4x104x128.Idx} : x ∈ (slotV t n inb sq).view.set ↔ (x 0).val = t ∧ (x 1).val < n := by
  rw [slotV_set, Rect.mem_set_unit]
  constructor
  · intro h
    have h0 : t ≤ (x 0).val ∧ (x 0).val < t + 1 := h 0
    have h1 : 0 ≤ (x 1).val ∧ (x 1).val < 0 + n := h 1
    omega
  · rintro ⟨h0, h1⟩ a
    match a with
    | 0 => show t ≤ (x 0).val ∧ (x 0).val < t + 1; omega
    | 1 => show 0 ≤ (x 1).val ∧ (x 1).val < 0 + n; omega
    | 2 => have h2 : (x 2).val < 128 := (x 2).isLt
           show 0 ≤ (x 2).val ∧ (x 2).val < 0 + 128; omega

/-- An element of the slot's window, as an element of the row buffer. -/
theorem slotV_emb (y : (⟨2, ![n, 128]⟩ : Shape).Idx) :
    (((slotV t n inb sq).view.emb y : S4x104x128.Idx) 1).val = (y 0).val ∧ (((slotV t n inb sq).view.emb y : S4x104x128.Idx) 2).val = (y 1).val := by
  have hy : Shape.reshapeEquiv sq.numel_eq y = ix3 (⟨0, Nat.one_pos⟩ : Fin 1) (y 0) (y 1) := by
    conv_lhs => rw [eq_ix2 y]
    exact reshapeEquiv_ix2_1ab _ _ _
  have he : ∀ a : Fin 3, (((slotV t n inb sq).view.emb y : S4x104x128.Idx) a).val = (![t, 0, 0] : Fin 3 → ℕ) a + ((ix3 (⟨0, Nat.one_pos⟩ : Fin 1) (y 0) (y 1) : (⟨3, ![1, n, 128]⟩ : Shape).Idx) a).val := by
    intro a
    refine (ValueKit.rect_emb_unit_val (s := S4x104x128) ![t, 0, 0] _ inb (Shape.reshapeEquiv sq.numel_eq y) a).trans ?_
    exact congrArg (fun z : (⟨3, ![1, n, 128]⟩ : Shape).Idx => (![t, 0, 0] : Fin 3 → ℕ) a + (z a).val) hy
  constructor
  · rw [he 1]; show 0 + (y 0).val = _; omega
  · rw [he 2]; show 0 + (y 1).val = _; omega

end Slot

/-- The word a run of the list holds at a place. -/
theorem listV_read (iv : ListS.Idx → BitVec 32) (w n : ℕ) (o : Fin 1 → ℕ) (inb : ∀ a, o a + (⟨1, ![n]⟩ : Shape).size a ≤ S25600.size a)
    (x : (⟨1, ![n]⟩ : Shape).Idx) :
    (listV n o inb).view.read (Elt F) (listC iv w) x = iv (place (25600 * w + o 0 + (x 0).val)) := by
  refine ((View.read_apply _ _).trans (cast_eq _ _)).trans ?_
  unfold listC
  have h : (((listV n o inb).view.emb x : S25600.Idx) 0).val = o 0 + (x 0).val :=
    ValueKit.rect_emb_unit_val (s := S25600) o (⟨1, ![n]⟩ : Shape).size inb x (0 : Fin 1)
  rw [h, Nat.add_assoc]

theorem xAll_read (tb : TableS.Idx → F .f32) : (xAll).view.read (Elt F) tb = tb := by
  funext x
  refine ((View.read_apply _ _).trans (cast_eq _ _)).trans ?_
  refine congrArg tb (funext fun a => Fin.ext ?_)
  refine (ValueKit.rect_emb_unit_val _ _ inb_S100000x128_S100000x128_0_0 x a).trans ?_
  match a with
  | 0 => exact Nat.zero_add _
  | 1 => exact Nat.zero_add _

variable (d : Dev nD) (L : grid0.Coords)

/-- Issuing a gather into a free slot: the rows at a run of the list will be in it when the gather's semaphore is waited for. -/
theorem wp_issue (iv : ListS.Idx → BitVec 32) (hiv : InRange iv) (tb : TableS.Idx → F .f32) (w : ℕ) (t n : ℕ)
    (inb : ∀ a, (![t, 0, 0] : Fin 3 → ℕ) a + (⟨3, ![1, n, 128]⟩ : Shape).size a ≤ S4x104x128.size a)
    (sq : (⟨3, ![1, n, 128]⟩ : Shape).Squeezes ⟨2, ![n, 128]⟩) (hg : S100000x128.Gathers 0 ⟨2, ![n, 128]⟩)
    (o : Fin 1 → ℕ) (inbo : ∀ a, o a + (⟨1, ![n]⟩ : Shape).size a ≤ S25600.size a)
    {hn : (⟨1, ![n]⟩ : Shape).numel = (⟨2, ![n, 128]⟩ : Shape).size hg.axis'} {sem : DmaSem sig} {hp : (V d (cV L) (jV L)).2.kind = .scVector} {hsrc : (xAll).view.WordExact} {he : EltTy.f32.bits = 32}
    {hsp : Space.hbm = .hbm ∨ Space.hbm = .shared} {hr : S100000x128.StreamRows 0}
    (N : ℕ) (hN : ∑ j, ((slotV t n inb sq).slice ((⟨2, ![n, 128]⟩ : Shape).rowRect hg.axis' j) ((⟨2, ![n, 128]⟩ : Shape).stride_rowRect hg.axis' j)).view.dmaCredit = N)
    (hpos : 0 < (⟨2, ![n, 128]⟩ : Shape).numel) (s : ℕ) (hs : s = 25600 * w + o 0)
    {q qo : PosShare TreeShare} {fd : S4x104x128.Idx → F .f32} {α : Type}
    {kk : PUnit → Prog (TpuEff nD τ sig (Elt F) Λ₀ (V d (cV L) (jV L)).2) α} {Q : α → sProp 𝕄} :
    iprop(((xAll).view.loc (V d (cV L) (jV L)) ↦[(xAll).view.set]{q} tb)
        ∗ ((slotV t n inb sq).view.loc (V d (cV L) (jV L)) ↦[(slotV t n inb sq).view.set]{fullShare} fd)
        ∗ ((sV).view.loc (V d (cV L) (jV L)) ↦{qo} listC iv w) ∗ semVal (V d (cV L) (jV L), SemLoc.dma sem) 0)
      ⊢ iprop((Transfers.Flight countersEmb (V d (cV L) (jV L)) (.dma sem) (default : HIx 1) N
                iprop(((slotV t n inb sq).view.loc (V d (cV L) (jV L)) ↦[(slotV t n inb sq).view.set]{fullShare} slotC iv tb s)
                  ∗ ((xAll).view.loc (V d (cV L) (jV L)) ↦[(xAll).view.set]{q} tb) ∗ ((sV).view.loc (V d (cV L) (jV L)) ↦{qo} listC iv w))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp (xAll) (slotV t n inb sq) hg (listV n o inbo) hn sem hsrc he hsp hr >>= kk) Q) := by
  have hin : ∀ x, ((listV n o inbo).view.read (Elt F) (listC iv w) x).toNat < S100000x128.size hg.axis := by
    intro x; rw [listV_read]; exact hiv _
  -- what the gather delivers, element by element
  have hval : ∀ i ∈ (slotV t n inb sq).view.set,
      (slotV t n inb sq).view.write (Elt F) fd (SparseCore.gatherPayload hg ((xAll).view.read (Elt F) tb)
        (SparseCore.rows ((listV n o inbo).view.read (Elt F) (listC iv w)) hn hin)) Finset.univ i = slotC iv tb s i := by
    intro i hi
    obtain ⟨y, -, rfl⟩ := Finset.mem_map.mp hi
    refine ((View.write_emb_of_mem _ _ (Finset.mem_univ y)).trans (cast_eq _ _)).trans ?_
    obtain ⟨e1, e2⟩ := slotV_emb (t := t) (n := n) (inb := inb) (sq := sq) y
    unfold SparseCore.gatherPayload slotC gat
    rw [xAll_read]
    refine congrArg tb (funext fun b => ?_)
    match b with
    | 0 =>
      apply Fin.ext
      have hrow := congrArg Fin.val (hg.idx_axis (SparseCore.rows ((listV n o inbo).view.read (Elt F) (listC iv w)) hn hin) y)
      refine hrow.trans ?_
      unfold SparseCore.rows
      show ((listV n o inbo).view.read (Elt F) (listC iv w) _).toNat = (rowOf _).val
      rw [listV_read]
      have hk : ((((⟨1, ![n]⟩ : Shape).rowMajor.symm ((y hg.axis').cast hn.symm)) : (⟨1, ![n]⟩ : Shape).Idx) 0).val = (y 0).val := by
        have h1 := Shape.rowMajor_val_one ((⟨1, ![n]⟩ : Shape).rowMajor.symm ((y hg.axis').cast hn.symm))
        rw [Equiv.apply_symm_apply] at h1
        exact h1.symm
      rw [hk]
      unfold rowOf
      show _ = _ % 100000
      rw [Nat.mod_eq_of_lt (hiv _)]
      have e1' : (((slotV t n inb sq).view.emb y : S4x104x128.Idx) 1).val = (y 0).val := e1
      rw [e1', hs]
    | 1 =>
      apply Fin.ext
      refine (hg.idx_of_ne _ y 1 (by decide)).trans ?_
      exact e2.symm
  iintro ⟨Hx, Hd, Hl, Hv⟩ HK
  ihave ⟨Hl, Hlr⟩ := (pointsTo_split_subset (Finset.subset_univ (listV n o inbo).view.set)).1 $$ Hl
  iapply (SparseCore.wp_indirectGatherLocal countersEmb 𝒱₀ (V d (cV L) (jV L)) none (hg := hg) (default : HIx 1) N hN hpos hin) $$ [Hx Hd Hl Hv]
  · iframe Hx Hd Hl Hv
  iintro Hf
  iapply HK
  iapply (Transfers.Flight_mono countersEmb (V d (cV L) (jV L))
    (D := iprop(((sV).view.loc (V d (cV L) (jV L)) ↦[Finset.univ \ (listV n o inbo).view.set]{qo} listC iv w)
      ∗ (((slotV t n inb sq).view.loc (V d (cV L) (jV L)) ↦[(slotV t n inb sq).view.set]{fullShare}
          (slotV t n inb sq).view.write (Elt F) fd (SparseCore.gatherPayload hg ((xAll).view.read (Elt F) tb)
            (SparseCore.rows ((listV n o inbo).view.read (Elt F) (listC iv w)) hn hin)) Finset.univ)
        ∗ ((xAll).view.loc (V d (cV L) (jV L)) ↦[(xAll).view.set]{q} tb)
        ∗ ((listV n o inbo).view.loc (V d (cV L) (jV L)) ↦[(listV n o inbo).view.set]{qo} listC iv w)))) (by
    iintro ⟨Hlr, Hd, Hx, Hl⟩
    isplitl [Hd]
    · iapply (Entails.of_eq (pointsTo_congr hval)); iexact Hd
    isplitl [Hx]; · iexact Hx
    iapply ((pointsTo_split_subset (Finset.subset_univ (listV n o inbo).view.set)).2)
    iframe Hl Hlr))
  iapply (Transfers.Flight_frame countersEmb (V d (cV L) (jV L)))
  iframe Hlr Hf

end Cert.Proof.KernelIdeal
-- ==== Proof.KernelIdeal.Store.lean ====
/-
  The tile's result buffer, filled sixteen columns at a time.
-/
module

public import proofs.«01_k».proof.Proof.KernelIdeal.Gather
public import Idealize.ShloMosaic.Lib.ValueLayout

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

local notation "wV" => (Memref.whole Cert.KernelIdeal.cc0_scratch2 : Memref Cert.KernelIdeal.sig Kind.scVector Space.vmem Cert.KernelIdeal.S128x128 EltTy.f32)

variable (d : Dev nD) (L : grid0.Coords)

/-- The tile's result buffer after `m` stores of sixteen columns: the first `16 * m` elements in row-major order hold the scaled sums, the
    others what they held. -/
def outC (iv : ListS.Idx → BitVec 32) (tb : TableS.Idx → F .f32) (w : ℕ) (f₀ : S128x128.Idx → F .f32) (m : ℕ) : S128x128.Idx → F .f32 :=
  fun x => if 128 * (x 0).val + (x 1).val < 16 * m then FloatOps.mulf (psum iv tb (25600 * w + 200 * (x 0).val) (x 1) 200) scale else f₀ x

/-- A stored group of sixteen columns: a lane of the sum, scaled. -/
theorem cast_scaled (iv : ListS.Idx → BitVec 32) (tb : TableS.Idx → F .f32) (b : ℕ) (k : Fin 8) (x : S1x16.Idx) :
    shapeCast S1x16 (mulf (lane iv tb b 200 k) (broadcast S16 scale)) shapeCasts_S16_S1x16 x
      = FloatOps.mulf (psum iv tb b ⟨16 * k.val + (x 1).val, by have h : (x 1).val < 16 := (x 1).isLt; omega⟩ 200) scale := by
  conv_lhs => rw [eq_ix2 x]
  exact (shapeCast_a_1a_apply _ shapeCasts_S16_S1x16 _ _)

/-- Storing the next sixteen columns. -/
theorem wp_outStore (iv : ListS.Idx → BitVec 32) (tb : TableS.Idx → F .f32) (w : ℕ) (f₀ : S128x128.Idx → F .f32) (r : Fin 128) (k : Fin 8) (m b : ℕ)
    (hm : m = 8 * r.val + k.val) (hb : b = 25600 * w + 200 * r.val) {o : Fin 2 → ℕ} {inb : ∀ a, o a + S1x16.size a ≤ S128x128.size a} (ho : o = ![r.val, 16 * k.val])
    {pay : S1x16.Idx → F .f32} (hpay : pay = shapeCast S1x16 (mulf (lane iv tb b 200 k) (broadcast S16 scale)) shapeCasts_S16_S1x16)
    {hx : ((wV).access (Rect.unit (s := S128x128) o S1x16.size inb)).Stores Finset.univ} {hmk}
    {α : Type} {kk : PUnit → Prog (TpuEff nD τ sig (Elt F) Λ₀ (V d (cV L) (jV L)).2) α} {Q : α → sProp 𝕄} :
    ((wV).view.loc (V d (cV L) (jV L)) ↦{fullShare} outC iv tb w f₀ m : sProp 𝕄)
      ⊢ iprop((((wV).view.loc (V d (cV L) (jV L)) ↦{fullShare} outC iv tb w f₀ (m + 1))
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (.op (.store (wV) (Rect.unit (s := S128x128) o S1x16.size inb) pay Finset.univ hx hmk) kk) Q) := by
  subst ho
  have hval : ∀ i ∈ (Finset.univ : Finset S128x128.Idx),
      ((wV).access (Rect.unit (s := S128x128) ![r.val, 16 * k.val] S1x16.size inb)).write (Elt F) (outC iv tb w f₀ m) pay Finset.univ i = outC iv tb w f₀ (m + 1) i := by
    intro i _
    by_cases hi : i ∈ ((wV).access (Rect.unit (s := S128x128) ![r.val, 16 * k.val] S1x16.size inb)).setOn Finset.univ
    · obtain ⟨x, -, rfl⟩ := Finset.mem_map.mp hi
      refine ((View.write_emb_of_mem _ _ (Finset.mem_univ x)).trans (cast_eq _ _)).trans ?_
      have h0 : (x 0).val < 1 := (x 0).isLt
      have h1 : (x 1).val < 16 := (x 1).isLt
      have e0 : ((((wV).access (Rect.unit (s := S128x128) ![r.val, 16 * k.val] S1x16.size inb)).emb x : S128x128.Idx) 0).val = r.val := by
        refine (ValueKit.rect_emb_unit_val (s := S128x128) ![r.val, 16 * k.val] S1x16.size inb x (0 : Fin 2)).trans ?_
        show r.val + (x 0).val = _; omega
      have e1 : ((((wV).access (Rect.unit (s := S128x128) ![r.val, 16 * k.val] S1x16.size inb)).emb x : S128x128.Idx) 1).val = 16 * k.val + (x 1).val := by
        refine (ValueKit.rect_emb_unit_val (s := S128x128) ![r.val, 16 * k.val] S1x16.size inb x (1 : Fin 2)).trans ?_
        rfl
      rw [hpay, cast_scaled]
      unfold outC
      rw [if_pos (by rw [e0, e1]; omega), e0, ← hb]
      exact congrArg (fun c => FloatOps.mulf (psum iv tb b c 200) scale) (Fin.ext e1.symm)
    · rw [View.write_of_not_mem _ _ _ hi]
      have hno : ¬ ((i 0).val = r.val ∧ 16 * k.val ≤ (i 1).val ∧ (i 1).val < 16 * k.val + 16) := by
        rintro ⟨h0, h1, h2⟩
        apply hi
        refine Finset.mem_map.mpr ⟨(ix2 (0 : Fin 1) ⟨(i 1).val - 16 * k.val, by omega⟩ : S1x16.Idx), Finset.mem_univ _, ?_⟩
        funext a
        apply Fin.ext
        refine (ValueKit.rect_emb_unit_val (s := S128x128) ![r.val, 16 * k.val] S1x16.size inb _ a).trans ?_
        match a with
        | 0 => show r.val + 0 = (i 0).val; omega
        | 1 => show 16 * k.val + ((i 1).val - 16 * k.val) = (i 1).val; omega
      unfold outC
      have hi1 : (i 1).val < 128 := (i 1).isLt
      have hk : k.val < 8 := k.isLt
      by_cases hc : 128 * (i 0).val + (i 1).val < 16 * m
      · rw [if_pos hc, if_pos (by omega)]
      · rw [if_neg hc, if_neg (by omega)]
  iintro Hw HK
  iapply (wp_store 𝒱₀ (V d (cV L) (jV L)) none Set.univ (m := wV) (r := Rect.unit (s := S128x128) ![r.val, 16 * k.val] S1x16.size inb) (w := pay)
    (Mk := Finset.univ) (hx := hx) (hm := hmk) (S := Finset.univ) (f := outC iv tb w f₀ m) (Finset.subset_univ _)) $$ Hw
  iintro Hw
  iapply HK
  iapply (Entails.of_eq (pointsTo_congr hval)); iexact Hw

/-- Reading a group of columns of the result buffer (what is read is not used). -/
theorem wp_outLoad {f : S128x128.Idx → F .f32} {o : Fin 2 → ℕ} {inb : ∀ a, o a + S1x16.size a ≤ S128x128.size a}
    {hl : (wV).view.LoadsAt (Rect.unit (s := S128x128) o S1x16.size inb).toLoadRect}
    {α : Type} {p : Prog (TpuEff nD τ sig (Elt F) Λ₀ (V d (cV L) (jV L)).2) α} {Q : α → sProp 𝕄} :
    ((wV).view.loc (V d (cV L) (jV L)) ↦{fullShare} f : sProp 𝕄)
      ⊢ iprop((((wV).view.loc (V d (cV L) (jV L)) ↦{fullShare} f)
          -∗ wp frame (wpE (defs₀ (F := F)) 𝒱₀ (V d (cV L) (jV L)) none) Set.univ p Q)
        -∗ wp frame (wpE (defs₀ (F := F)) 𝒱₀ (V d (cV L) (jV L)) none) Set.univ
            (.op (.load (wV) (Rect.unit (s := S128x128) o S1x16.size inb).toLoadRect hl) fun _ => p) Q) := by
  iintro Hw HK
  iapply (wp_load 𝒱₀ (V d (cV L) (jV L)) none Set.univ (m := wV) (r := (Rect.unit (s := S128x128) o S1x16.size inb).toLoadRect) (hl := hl)
    (k := fun _ => p) (S := Finset.univ) (q := fullShare) (f := f) (Finset.subset_univ _)) $$ Hw
  iexact HK

end Cert.Proof.KernelIdeal
-- ==== Proof.KernelIdeal.Slot.lean ====
/-
  The state of a slot between trips, and the slot's wait, its summing and its next gather.
-/
module

public import proofs.«01_k».proof.Proof.KernelIdeal.Store
public import Idealize.ShloMosaic.Lib.ValueLayout

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

local notation "wV" => (Memref.whole Cert.KernelIdeal.cc0_scratch2 : Memref Cert.KernelIdeal.sig Kind.scVector Space.vmem Cert.KernelIdeal.S128x128 EltTy.f32)

/-- Where the `k`-th trip of summing loop 2 reads its eight lanes. -/
def offs2 (k : Fin k0_t2_loop.trips) : Fin 8 → Fin 3 → ℕ := ![k0_off3 k, k0_off4 k, k0_off5 k, k0_off6 k, k0_off7 k, k0_off8 k, k0_off9 k, k0_off10 k]
theorem offs2_inb (k : Fin k0_t2_loop.trips) (n : Fin 8) : ∀ a, offs2 k n a + S1x1x16.size a ≤ S4x104x128.size a :=
  match n with
  | 0 => k0_off3_inb k
  | 1 => k0_off4_inb k
  | 2 => k0_off5_inb k
  | 3 => k0_off6_inb k
  | 4 => k0_off7_inb k
  | 5 => k0_off8_inb k
  | 6 => k0_off9_inb k
  | 7 => k0_off10_inb k
theorem offs2_eq (k : Fin k0_t2_loop.trips) (n : Fin 8) : offs2 k n = ![0, k.val, 16 * n.val] :=
  match n with
  | 0 => k0_off3_eq k
  | 1 => k0_off4_eq k
  | 2 => k0_off5_eq k
  | 3 => k0_off6_eq k
  | 4 => k0_off7_eq k
  | 5 => k0_off8_eq k
  | 6 => k0_off9_eq k
  | 7 => k0_off10_eq k

/-- Where the `k`-th trip of summing loop 3 reads its eight lanes. -/
def offs3 (k : Fin k0_t3_loop.trips) : Fin 8 → Fin 3 → ℕ := ![k0_off13 k, k0_off14 k, k0_off15 k, k0_off16 k, k0_off17 k, k0_off18 k, k0_off19 k, k0_off20 k]
theorem offs3_inb (k : Fin k0_t3_loop.trips) (n : Fin 8) : ∀ a, offs3 k n a + S1x1x16.size a ≤ S4x104x128.size a :=
  match n with
  | 0 => k0_off13_inb k
  | 1 => k0_off14_inb k
  | 2 => k0_off15_inb k
  | 3 => k0_off16_inb k
  | 4 => k0_off17_inb k
  | 5 => k0_off18_inb k
  | 6 => k0_off19_inb k
  | 7 => k0_off20_inb k
theorem offs3_eq (k : Fin k0_t3_loop.trips) (n : Fin 8) : offs3 k n = ![1, k.val, 16 * n.val] :=
  match n with
  | 0 => k0_off13_eq k
  | 1 => k0_off14_eq k
  | 2 => k0_off15_eq k
  | 3 => k0_off16_eq k
  | 4 => k0_off17_eq k
  | 5 => k0_off18_eq k
  | 6 => k0_off19_eq k
  | 7 => k0_off20_eq k

/-- Where the `k`-th trip of summing loop 4 reads its eight lanes. -/
def offs4 (k : Fin k0_t4_loop.trips) : Fin 8 → Fin 3 → ℕ := ![k0_off30 k, k0_off31 k, k0_off32 k, k0_off33 k, k0_off34 k, k0_off35 k, k0_off36 k, k0_off37 k]
theorem offs4_inb (k : Fin k0_t4_loop.trips) (n : Fin 8) : ∀ a, offs4 k n a + S1x1x16.size a ≤ S4x104x128.size a :=
  match n with
  | 0 => k0_off30_inb k
  | 1 => k0_off31_inb k
  | 2 => k0_off32_inb k
  | 3 => k0_off33_inb k
  | 4 => k0_off34_inb k
  | 5 => k0_off35_inb k
  | 6 => k0_off36_inb k
  | 7 => k0_off37_inb k
theorem offs4_eq (k : Fin k0_t4_loop.trips) (n : Fin 8) : offs4 k n = ![2, k.val, 16 * n.val] :=
  match n with
  | 0 => k0_off30_eq k
  | 1 => k0_off31_eq k
  | 2 => k0_off32_eq k
  | 3 => k0_off33_eq k
  | 4 => k0_off34_eq k
  | 5 => k0_off35_eq k
  | 6 => k0_off36_eq k
  | 7 => k0_off37_eq k

/-- Where the `k`-th trip of summing loop 5 reads its eight lanes. -/
def offs5 (k : Fin k0_t5_loop.trips) : Fin 8 → Fin 3 → ℕ := ![k0_off39 k, k0_off40 k, k0_off41 k, k0_off42 k, k0_off43 k, k0_off44 k, k0_off45 k, k0_off46 k]
theorem offs5_inb (k : Fin k0_t5_loop.trips) (n : Fin 8) : ∀ a, offs5 k n a + S1x1x16.size a ≤ S4x104x128.size a :=
  match n with
  | 0 => k0_off39_inb k
  | 1 => k0_off40_inb k
  | 2 => k0_off41_inb k
  | 3 => k0_off42_inb k
  | 4 => k0_off43_inb k
  | 5 => k0_off44_inb k
  | 6 => k0_off45_inb k
  | 7 => k0_off46_inb k
theorem offs5_eq (k : Fin k0_t5_loop.trips) (n : Fin 8) : offs5 k n = ![3, k.val, 16 * n.val] :=
  match n with
  | 0 => k0_off39_eq k
  | 1 => k0_off40_eq k
  | 2 => k0_off41_eq k
  | 3 => k0_off42_eq k
  | 4 => k0_off43_eq k
  | 5 => k0_off44_eq k
  | 6 => k0_off45_eq k
  | 7 => k0_off46_eq k

variable (d : Dev nD) (L : grid0.Coords)

section Slot

variable (iv : ListS.Idx → BitVec 32) (tb : TableS.Idx → F .f32) (w t n : ℕ)
  (inb : ∀ a, (![t, 0, 0] : Fin 3 → ℕ) a + (⟨3, ![1, n, 128]⟩ : Shape).size a ≤ S4x104x128.size a)
  (sq : (⟨3, ![1, n, 128]⟩ : Shape).Squeezes ⟨2, ![n, 128]⟩) (sem : DmaSem sig) (off : ℕ) (qx ql : PosShare TreeShare)

/-- What a gather reads, and its semaphore at zero: the share of the table, the share of the list. -/
def slotRest : sProp 𝕄 :=
  iprop(((xAll).view.loc (V d (cV L) (jV L)) ↦[(xAll).view.set]{qx} tb) ∗ ((sV).view.loc (V d (cV L) (jV L)) ↦{ql} listC iv w)
    ∗ semVal (V d (cV L) (jV L), SemLoc.dma sem) 0)

/-- A slot before trip `g`: a gather of the rows from place `25600 * w + 400 * g + off` on is under way, or, after the last trip, the slot is
    free. -/
def slotSt (g : ℕ) : sProp 𝕄 :=
  if g < 64 then
    Transfers.Flight countersEmb (V d (cV L) (jV L)) (.dma sem) (default : HIx 1) (slotV t n inb sq).view.dmaCredit
      iprop(((slotV t n inb sq).view.loc (V d (cV L) (jV L)) ↦[(slotV t n inb sq).view.set]{fullShare} slotC iv tb (25600 * w + 400 * g + off))
        ∗ ((xAll).view.loc (V d (cV L) (jV L)) ↦[(xAll).view.set]{qx} tb) ∗ ((sV).view.loc (V d (cV L) (jV L)) ↦{ql} listC iv w))
  else
    iprop((∃ fd, (slotV t n inb sq).view.loc (V d (cV L) (jV L)) ↦[(slotV t n inb sq).view.set]{fullShare} fd) ∗ slotRest d L iv tb w sem qx ql)

/-- What a tile owes: the waits made so far beyond `W` are all of the kernel's own copies. -/
def owesW (O : CellTallies nD τ sig (HIx 1)) (W : Waits sig (HIx 1)) : sProp 𝕄 :=
  iprop(∃ W', ⌜∀ p ∈ W', p ∈ W ∨ p.2 = none⌝ ∗ owes (V d (cV L) (jV L)) O W')

/-- Waiting for a slot's gather: the rows are in the slot. -/
theorem wp_waitSlot (g : ℕ) (hg : g < 64) (O : CellTallies nD τ sig (HIx 1)) (W : Waits sig (HIx 1))
    {hsrc : (xAll).view.WordExact} {hdst : (slotV t n inb sq).view.WordExact} {α : Type}
    {kk : PUnit → Prog (TpuEff nD τ sig (Elt F) Λ₀ (V d (cV L) (jV L)).2) α} {Q : α → sProp 𝕄} :
    iprop(slotSt d L iv tb w t n inb sq sem off qx ql g ∗ owesW d L O W ∗ Transfers.MayWaits (V d (cV L) (jV L)) (default : HIx 1) O)
      ⊢ iprop((iprop(((bV).view.loc (V d (cV L) (jV L)) ↦[(slotV t n inb sq).view.set]{fullShare} slotC iv tb (25600 * w + 400 * g + off))
            ∗ slotRest d L iv tb w sem qx ql ∗ owesW d L O W)
          -∗ wp frame (wpE (defs₀ (F := F)) 𝒱₀ (V d (cV L) (jV L)) none) Set.univ (kk ⟨⟩) Q)
        -∗ wp frame (wpE (defs₀ (F := F)) 𝒱₀ (V d (cV L) (jV L)) none) Set.univ
            (SparseCore.waitIndirectGather sem (xAll) (slotV t n inb sq) hsrc hdst >>= kk) Q) := by
  unfold slotSt
  rw [if_pos hg]
  simp only [SparseCore.waitIndirectGather, owesW, slotRest, Prog.bind_op, Prog.bind_ret]
  iintro ⟨Hf, ⟨%W', %hW', HO⟩, #Hmw⟩ HK
  iapply (Transfers.wp_waitLocalO countersEmb 𝒱₀ (V d (cV L) (jV L)) none (default : HIx 1) (rfl : (slotV t n inb sq).view.dmaCredit = _)) $$ [Hf HO]
  · isplitl [Hf]; · iexact Hf
    isplitl [HO]; · iexact HO
    iapply (Transfers.MayWaits.elim (SemLoc.dma sem)) $$ Hmw
  iintro ⟨⟨Hs, Hx, Hl⟩, Hv, HO⟩
  iapply HK
  isplitl [Hs]; · iexact Hs
  isplitl [Hx Hl Hv]
  · isplitl [Hx]; · iexact Hx
    isplitl [Hl]; · iexact Hl
    iexact Hv
  iexists _; isplitr
  swap; · iexact HO
  ipureintro; intro p hp
  rcases Finset.mem_insert.mp hp with hp | hp
  · exact .inr (hp ▸ rfl)
  · exact hW' p hp

/-- The slot's next gather, issued on every trip but the last. -/
theorem wp_issueIf (hiv : InRange iv) (g : ℕ) (hg64 : g < 64) (hg : S100000x128.Gathers 0 ⟨2, ![n, 128]⟩) (c : BitVec 1) (hc : c = 1#1 ↔ g < 63)
    (o : Fin 1 → ℕ) (ho : o = ![400 * (g + 1) + off]) (inbo : c = 1#1 → ∀ a, o a + (⟨1, ![n]⟩ : Shape).size a ≤ S25600.size a)
    {hn : (⟨1, ![n]⟩ : Shape).numel = (⟨2, ![n, 128]⟩ : Shape).size hg.axis'} {hp : (V d (cV L) (jV L)).2.kind = .scVector}
    {hsrc : (xAll).view.WordExact} {he : EltTy.f32.bits = 32} {hsp : Space.hbm = .hbm ∨ Space.hbm = .shared} {hr : S100000x128.StreamRows 0}
    (hN : ∑ j, ((slotV t n inb sq).slice ((⟨2, ![n, 128]⟩ : Shape).rowRect hg.axis' j) ((⟨2, ![n, 128]⟩ : Shape).stride_rowRect hg.axis' j)).view.dmaCredit
      = (slotV t n inb sq).view.dmaCredit) (hpos : 0 < (⟨2, ![n, 128]⟩ : Shape).numel)
    {fd : S4x104x128.Idx → F .f32} {α β : Type}
    {pp : Prog (TpuEff nD τ sig (Elt F) Λ₀ (V d (cV L) (jV L)).2) β} {kk : β → Prog (TpuEff nD τ sig (Elt F) Λ₀ (V d (cV L) (jV L)).2) α} {Q : α → sProp 𝕄} :
    iprop(((bV).view.loc (V d (cV L) (jV L)) ↦[(slotV t n inb sq).view.set]{fullShare} fd) ∗ slotRest d L iv tb w sem qx ql)
      ⊢ iprop((slotSt d L iv tb w t n inb sq sem off qx ql (g + 1)
          -∗ wp frame (wpE (defs₀ (F := F)) 𝒱₀ (V d (cV L) (jV L)) none) Set.univ (pp >>= kk) Q)
        -∗ wp frame (wpE (defs₀ (F := F)) 𝒱₀ (V d (cV L) (jV L)) none) Set.univ
            ((if h : c = 1#1 then
                SparseCore.enqueueIndirectGather hp (xAll) (slotV t n inb sq) hg (listV n o (inbo h)) hn sem hsrc he hsp hr >>= fun _ => pp
              else pp) >>= kk) Q) := by
  unfold slotSt
  by_cases h : c = 1#1
  · rw [dif_pos h, if_pos (by have := hc.mp h; omega)]
    simp only [Prog.bind_assoc, slotRest]
    iintro ⟨Hs, Hx, Hl, Hv⟩ HK
    iapply (wp_issue d L iv hiv tb w t n inb sq hg o (inbo h) _ hN hpos (25600 * w + 400 * (g + 1) + off)
      (by rw [ho, Nat.add_assoc]; rfl)) $$ [Hs Hx Hl Hv]
    · isplitl [Hx]; · iexact Hx
      isplitl [Hs]; · iexact Hs
      isplitl [Hl]; · iexact Hl
      iexact Hv
    iintro Hf
    iapply HK
    iexact Hf
  · rw [dif_neg h, if_neg (by have := mt hc.mpr h; omega)]
    iintro ⟨Hs, Hr⟩ HK
    iapply HK
    isplitl [Hs]
    · iexists _; iexact Hs
    · iexact Hr

end Slot

/-- What a gather into slot 0 adds to its semaphore. -/
theorem credit0 : ∑ j, ((slotV 0 96 inb_S4x104x128_S1x96x128_0_0_0 squeezes_S1x96x128_S96x128).slice (S96x128.rowRect gathers_S100000x128_S96x128.axis' j)
      (S96x128.stride_rowRect gathers_S100000x128_S96x128.axis' j)).view.dmaCredit
    = (slotV 0 96 inb_S4x104x128_S1x96x128_0_0_0 squeezes_S1x96x128_S96x128).view.dmaCredit := by decide +kernel
/-- What a gather into slot 1 adds to its semaphore. -/
theorem credit1 : ∑ j, ((slotV 1 104 inb_S4x104x128_S1x104x128_1_0_0 squeezes_S1x104x128_S104x128).slice (S104x128.rowRect gathers_S100000x128_S104x128.axis' j)
      (S104x128.stride_rowRect gathers_S100000x128_S104x128.axis' j)).view.dmaCredit
    = (slotV 1 104 inb_S4x104x128_S1x104x128_1_0_0 squeezes_S1x104x128_S104x128).view.dmaCredit := by decide +kernel
/-- What a gather into slot 2 adds to its semaphore. -/
theorem credit2 : ∑ j, ((slotV 2 96 inb_S4x104x128_S1x96x128_2_0_0 squeezes_S1x96x128_S96x128).slice (S96x128.rowRect gathers_S100000x128_S96x128.axis' j)
      (S96x128.stride_rowRect gathers_S100000x128_S96x128.axis' j)).view.dmaCredit
    = (slotV 2 96 inb_S4x104x128_S1x96x128_2_0_0 squeezes_S1x96x128_S96x128).view.dmaCredit := by decide +kernel
/-- What a gather into slot 3 adds to its semaphore. -/
theorem credit3 : ∑ j, ((slotV 3 104 inb_S4x104x128_S1x104x128_3_0_0 squeezes_S1x104x128_S104x128).slice (S104x128.rowRect gathers_S100000x128_S104x128.axis' j)
      (S104x128.stride_rowRect gathers_S100000x128_S104x128.axis' j)).view.dmaCredit
    = (slotV 3 104 inb_S4x104x128_S1x104x128_3_0_0 squeezes_S1x104x128_S104x128).view.dmaCredit := by decide +kernel
theorem numel96_pos : 0 < S96x128.numel := by decide +kernel
theorem numel104_pos : 0 < S104x128.numel := by decide +kernel

theorem cond1_iff : ∀ g : Fin k0_t1_loop.trips, k0_cond1 g = 1#1 ↔ g.val < 63 := by decide +kernel
theorem cond2_iff : ∀ g : Fin k0_t1_loop.trips, k0_cond2 g = 1#1 ↔ g.val < 63 := by decide +kernel
theorem cond3_iff : ∀ g : Fin k0_t1_loop.trips, k0_cond3 g = 1#1 ↔ g.val < 63 := by decide +kernel
theorem cond4_iff : ∀ g : Fin k0_t1_loop.trips, k0_cond4 g = 1#1 ↔ g.val < 63 := by decide +kernel

end Cert.Proof.KernelIdeal
-- ==== Proof.KernelIdeal.Trip.lean ====
/-
  One trip of the tile's loop: two rows of the result, each the scaled sum of two slots.
-/
module

public import proofs.«01_k».proof.Proof.KernelIdeal.Slot
public import Idealize.ShloMosaic.Lib.ValueLayout

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

local notation "wV" => (Memref.whole Cert.KernelIdeal.cc0_scratch2 : Memref Cert.KernelIdeal.sig Kind.scVector Space.vmem Cert.KernelIdeal.S128x128 EltTy.f32)
local notation "hV" => (Memref.whole Cert.KernelIdeal.main_v0_scv : Memref Cert.KernelIdeal.sig Kind.scVector Space.hbm Cert.KernelIdeal.S819200 EltTy.i32)
local notation "oV" => (Memref.whole Cert.KernelIdeal.main_v1_scv : Memref Cert.KernelIdeal.sig Kind.scVector Space.hbm Cert.KernelIdeal.S4096x128 EltTy.f32)

variable (d : Dev nD) (L : grid0.Coords) (iv : ListS.Idx → BitVec 32) (tb : TableS.Idx → F .f32) (w : ℕ) (qx ql : Fin 4 → PosShare TreeShare)
  (O : CellTallies nD τ sig (HIx 1)) (W : Waits sig (HIx 1)) (f₀ : S128x128.Idx → F .f32)

theorem g_lt (g : Fin k0_t1_loop.trips) : g.val < 64 := g.isLt
theorem row_lt (g : Fin k0_t1_loop.trips) (r : ℕ) (hr : r < 2) : 2 * g.val + r < 128 := by have := g_lt g; omega

/-- The first slot's rows summed, and its next gather issued. -/
theorem wp_part1 (hiv : InRange iv) (g : Fin k0_t1_loop.trips) {α : Type} {kk : (Σ' (_ : BitVec 32) (_ : BitVec 32) (_ : FVec F S16 .f32) (_ : FVec F S16 .f32) (_ : FVec F S16 .f32) (_ : FVec F S16 .f32) (_ : FVec F S16 .f32) (_ : FVec F S16 .f32) (_ : FVec F S16 .f32), FVec F S16 .f32) → Prog (TpuEff nD τ sig (Elt F) Λ₀ (V d (cV L) (jV L)).2) α} {Q : α → sProp 𝕄} :
    iprop(slotSt d L iv tb w 0 96 inb_S4x104x128_S1x96x128_0_0_0 squeezes_S1x96x128_S96x128 cc0_scratch3.sem 0 (qx 0) (ql 0) (g.val) ∗ owesW d L O W ∗ Transfers.MayWaits (V d (cV L) (jV L)) (default : HIx 1) O)
      ⊢ iprop((∀ a v, iprop(slotSt d L iv tb w 0 96 inb_S4x104x128_S1x96x128_0_0_0 squeezes_S1x96x128_S96x128 cc0_scratch3.sem 0 (qx 0) (ql 0) (g.val + 1) ∗ owesW d L O W)
            -∗ wp frame (wpE (defs₀ (F := F)) 𝒱₀ (V d (cV L) (jV L)) none) Set.univ (kk ⟨a, v, lane iv tb (25600 * w + 400 * g.val) 96 0, lane iv tb (25600 * w + 400 * g.val) 96 1, lane iv tb (25600 * w + 400 * g.val) 96 2, lane iv tb (25600 * w + 400 * g.val) 96 3, lane iv tb (25600 * w + 400 * g.val) 96 4, lane iv tb (25600 * w + 400 * g.val) 96 5, lane iv tb (25600 * w + 400 * g.val) 96 6, lane iv tb (25600 * w + 400 * g.val) 96 7⟩) Q)
        -∗ wp frame (wpE (defs₀ (F := F)) 𝒱₀ (V d (cV L) (jV L)) none) Set.univ (k0_part1 L hV (Memref.isWhole_whole _) xV (Memref.isWhole_whole _) oV (Memref.isWhole_whole _) sV (Memref.isWhole_whole _) bV (Memref.isWhole_whole _)
    wV (Memref.isWhole_whole _) cc0_scratch3 cc0_scratch4 cc0_scratch5 cc0_scratch6 cc0_scoped0 cc0_scoped1
            0#32 1#32 g >>= kk) Q) := by
  rw [k0_part1_eq_skeleton]
  unfold k0_part1_skel
  simp only [Prog.lift, Prog.bind_op, Prog.bind_ret, Prog.pure_eq_ret, Prog.bind_assoc]
  iintro ⟨Hst0, HO, #Hmw⟩ HK
  iapply (wp_waitSlot d L iv tb w 0 96 inb_S4x104x128_S1x96x128_0_0_0 squeezes_S1x96x128_S96x128 cc0_scratch3.sem 0 (qx 0) (ql 0) g.val (g_lt g) O W)
    $$ [Hst0 HO]
  · isplitl [Hst0]; · iexact Hst0
    isplitl [HO]; · iexact HO
    iexact Hmw
  iintro ⟨Hs, Hr, HO⟩
  iapply (wp_sumLoop d L iv tb k0_t2_loop k0_t2_ok 96 (by decide) (by omega) _ (offs2) (offs2_inb) (fun _ _ => rfl) 0
    (offs2_eq) (fun x h0 h1 => mem_slotV.mpr ⟨congrArg Fin.val h0, h1⟩) (25600 * w + 400 * g.val) 0 (25600 * w + 400 * g.val + 0) 96 (by omega) rfl _ rfl) $$ Hs
  iintro Hs
  iapply (wp_issueIf d L iv tb w 0 96 inb_S4x104x128_S1x96x128_0_0_0 squeezes_S1x96x128_S96x128 cc0_scratch3.sem 0 (qx 0) (ql 0) hiv g.val (g_lt g)
    gathers_S100000x128_S96x128 (k0_cond1 g) (cond1_iff g) (k0_off11 g) ((k0_off11_eq g).trans (by simp only [Nat.mul_add, Nat.add_assoc, Nat.mul_one, Nat.reduceAdd]))
    (k0_off11_inb g) credit0 numel96_pos) $$ [Hs Hr]
  · isplitl [Hs]; · iexact Hs
    iexact Hr
  iintro Hst0
  simp only [Prog.bind_op, Prog.bind_ret, Prog.bind_assoc]
  iapply HK
  isplitl [Hst0]; · iexact Hst0
  iexact HO

/-- The second slot's rows added, its next gather issued, and five groups of the first row stored. -/
theorem wp_part2 (hiv : InRange iv) (g : Fin k0_t1_loop.trips) (a v : BitVec 32) {α : Type} {kk : (Σ' (_ : FVec F S16 .f32) (_ : FVec F S16 .f32), FVec F S1x16 .f32) → Prog (TpuEff nD τ sig (Elt F) Λ₀ (V d (cV L) (jV L)).2) α} {Q : α → sProp 𝕄} :
    iprop(slotSt d L iv tb w 1 104 inb_S4x104x128_S1x104x128_1_0_0 squeezes_S1x104x128_S104x128 cc0_scratch4.sem 96 (qx 1) (ql 1) (g.val) ∗ ((wV).view.loc (V d (cV L) (jV L)) ↦{fullShare} outC iv tb w f₀ (16 * g.val)) ∗ owesW d L O W ∗ Transfers.MayWaits (V d (cV L) (jV L)) (default : HIx 1) O)
      ⊢ iprop((iprop(slotSt d L iv tb w 1 104 inb_S4x104x128_S1x104x128_1_0_0 squeezes_S1x104x128_S104x128 cc0_scratch4.sem 96 (qx 1) (ql 1) (g.val + 1) ∗ ((wV).view.loc (V d (cV L) (jV L)) ↦{fullShare} outC iv tb w f₀ (16 * g.val + 5)) ∗ owesW d L O W)
            -∗ wp frame (wpE (defs₀ (F := F)) 𝒱₀ (V d (cV L) (jV L)) none) Set.univ (kk ⟨lane iv tb (25600 * w + 400 * g.val) 200 6, lane iv tb (25600 * w + 400 * g.val) 200 7, (shapeCast S1x16 (mulf (lane iv tb (25600 * w + 400 * g.val) 200 5) (broadcast S16 scale)) shapeCasts_S16_S1x16)⟩) Q)
        -∗ wp frame (wpE (defs₀ (F := F)) 𝒱₀ (V d (cV L) (jV L)) none) Set.univ (k0_part2 L hV (Memref.isWhole_whole _) xV (Memref.isWhole_whole _) oV (Memref.isWhole_whole _) sV (Memref.isWhole_whole _) bV (Memref.isWhole_whole _)
    wV (Memref.isWhole_whole _) cc0_scratch3 cc0_scratch4 cc0_scratch5 cc0_scratch6 cc0_scoped0 cc0_scoped1
            scale g a v (lane iv tb (25600 * w + 400 * g.val) 96 0) (lane iv tb (25600 * w + 400 * g.val) 96 1) (lane iv tb (25600 * w + 400 * g.val) 96 2) (lane iv tb (25600 * w + 400 * g.val) 96 3) (lane iv tb (25600 * w + 400 * g.val) 96 4) (lane iv tb (25600 * w + 400 * g.val) 96 5) (lane iv tb (25600 * w + 400 * g.val) 96 6) (lane iv tb (25600 * w + 400 * g.val) 96 7) >>= kk) Q) := by
  rw [k0_part2_eq_skeleton]
  unfold k0_part2_skel
  simp only [Prog.lift, Prog.bind_op, Prog.bind_ret, Prog.pure_eq_ret, Prog.bind_assoc]
  iintro ⟨Hst1, Hw, HO, #Hmw⟩ HK
  iapply (wp_waitSlot d L iv tb w 1 104 inb_S4x104x128_S1x104x128_1_0_0 squeezes_S1x104x128_S104x128 cc0_scratch4.sem 96 (qx 1) (ql 1) g.val (g_lt g) O W)
    $$ [Hst1 HO]
  · isplitl [Hst1]; · iexact Hst1
    isplitl [HO]; · iexact HO
    iexact Hmw
  iintro ⟨Hs, Hr, HO⟩
  iapply (wp_sumLoop d L iv tb k0_t3_loop k0_t3_ok 104 (by decide) (by omega) _ (offs3) (offs3_inb) (fun _ _ => rfl) 1
    (offs3_eq) (fun x h0 h1 => mem_slotV.mpr ⟨congrArg Fin.val h0, h1⟩) (25600 * w + 400 * g.val) 96 (25600 * w + 400 * g.val + 96) 200 (by omega) rfl _ rfl) $$ Hs
  iintro Hs
  iapply (wp_issueIf d L iv tb w 1 104 inb_S4x104x128_S1x104x128_1_0_0 squeezes_S1x104x128_S104x128 cc0_scratch4.sem 96 (qx 1) (ql 1) hiv g.val (g_lt g)
    gathers_S100000x128_S104x128 (k0_cond2 g) (cond2_iff g) (k0_off21 g) ((k0_off21_eq g).trans (by simp only [Nat.mul_add, Nat.add_assoc, Nat.mul_one, Nat.reduceAdd]))
    (k0_off21_inb g) credit1 numel104_pos) $$ [Hs Hr]
  · isplitl [Hs]; · iexact Hs
    iexact Hr
  iintro Hst1
  simp only [Prog.bind_op, Prog.bind_ret, Prog.bind_assoc]
  iapply (wp_outLoad d L) $$ Hw; iintro Hw
  iapply (wp_outStore d L iv tb w f₀ ⟨2 * g.val + 0, row_lt g 0 (by omega)⟩ 0 (16 * g.val + 0) (25600 * w + 400 * g.val) (by simp only [Fin.val_mk]; show _ = _ + 0; omega)
    (by simp only [Fin.val_mk]; omega) (k0_off22_eq g 0) rfl) $$ Hw
  iintro Hw
  iapply (wp_outLoad d L) $$ Hw; iintro Hw
  iapply (wp_outStore d L iv tb w f₀ ⟨2 * g.val + 0, row_lt g 0 (by omega)⟩ 1 (16 * g.val + 1) (25600 * w + 400 * g.val) (by simp only [Fin.val_mk]; show _ = _ + 1; omega)
    (by simp only [Fin.val_mk]; omega) (k0_off23_eq g 0) rfl) $$ Hw
  iintro Hw
  iapply (wp_outLoad d L) $$ Hw; iintro Hw
  iapply (wp_outStore d L iv tb w f₀ ⟨2 * g.val + 0, row_lt g 0 (by omega)⟩ 2 (16 * g.val + 2) (25600 * w + 400 * g.val) (by simp only [Fin.val_mk]; show _ = _ + 2; omega)
    (by simp only [Fin.val_mk]; omega) (k0_off24_eq g 0) rfl) $$ Hw
  iintro Hw
  iapply (wp_outLoad d L) $$ Hw; iintro Hw
  iapply (wp_outStore d L iv tb w f₀ ⟨2 * g.val + 0, row_lt g 0 (by omega)⟩ 3 (16 * g.val + 3) (25600 * w + 400 * g.val) (by simp only [Fin.val_mk]; show _ = _ + 3; omega)
    (by simp only [Fin.val_mk]; omega) (k0_off25_eq g 0) rfl) $$ Hw
  iintro Hw
  iapply (wp_outLoad d L) $$ Hw; iintro Hw
  iapply (wp_outStore d L iv tb w f₀ ⟨2 * g.val + 0, row_lt g 0 (by omega)⟩ 4 (16 * g.val + 4) (25600 * w + 400 * g.val) (by simp only [Fin.val_mk]; show _ = _ + 4; omega)
    (by simp only [Fin.val_mk]; omega) (k0_off26_eq g 0) rfl) $$ Hw
  iintro Hw
  iapply (wp_outLoad d L) $$ Hw; iintro Hw
  iapply HK
  isplitl [Hst1]; · iexact Hst1
  isplitl [Hw]; · iexact Hw
  iexact HO

/-- The first row's last three groups stored, and the third slot's rows summed. -/
theorem wp_part3 (g : Fin k0_t1_loop.trips) (a v : BitVec 32) {α : Type} {kk : (Σ' (_ : BitVec 32) (_ : FVec F S16 .f32) (_ : FVec F S16 .f32) (_ : FVec F S16 .f32) (_ : FVec F S16 .f32) (_ : FVec F S16 .f32) (_ : FVec F S16 .f32) (_ : FVec F S16 .f32) (_ : FVec F S16 .f32), BitVec 32) → Prog (TpuEff nD τ sig (Elt F) Λ₀ (V d (cV L) (jV L)).2) α} {Q : α → sProp 𝕄} :
    iprop(slotSt d L iv tb w 2 96 inb_S4x104x128_S1x96x128_2_0_0 squeezes_S1x96x128_S96x128 cc0_scratch5.sem 200 (qx 2) (ql 2) (g.val) ∗ ((wV).view.loc (V d (cV L) (jV L)) ↦{fullShare} outC iv tb w f₀ (16 * g.val + 5)) ∗ owesW d L O W ∗ Transfers.MayWaits (V d (cV L) (jV L)) (default : HIx 1) O)
      ⊢ iprop((∀ u u', iprop(((bV).view.loc (V d (cV L) (jV L)) ↦[(slotV 2 96 inb_S4x104x128_S1x96x128_2_0_0 squeezes_S1x96x128_S96x128).view.set]{fullShare} slotC iv tb (25600 * w + 400 * g.val + 200)) ∗ slotRest d L iv tb w cc0_scratch5.sem (qx 2) (ql 2) ∗ ((wV).view.loc (V d (cV L) (jV L)) ↦{fullShare} outC iv tb w f₀ (16 * g.val + 8)) ∗ owesW d L O W)
            -∗ wp frame (wpE (defs₀ (F := F)) 𝒱₀ (V d (cV L) (jV L)) none) Set.univ (kk ⟨u, lane iv tb (25600 * w + 400 * g.val + 200) 96 0, lane iv tb (25600 * w + 400 * g.val + 200) 96 1, lane iv tb (25600 * w + 400 * g.val + 200) 96 2, lane iv tb (25600 * w + 400 * g.val + 200) 96 3, lane iv tb (25600 * w + 400 * g.val + 200) 96 4, lane iv tb (25600 * w + 400 * g.val + 200) 96 5, lane iv tb (25600 * w + 400 * g.val + 200) 96 6, lane iv tb (25600 * w + 400 * g.val + 200) 96 7, u'⟩) Q)
        -∗ wp frame (wpE (defs₀ (F := F)) 𝒱₀ (V d (cV L) (jV L)) none) Set.univ (k0_part3 L hV (Memref.isWhole_whole _) xV (Memref.isWhole_whole _) oV (Memref.isWhole_whole _) sV (Memref.isWhole_whole _) bV (Memref.isWhole_whole _)
    wV (Memref.isWhole_whole _) cc0_scratch3 cc0_scratch4 cc0_scratch5 cc0_scratch6 cc0_scoped0 cc0_scoped1
            scale g a v (lane iv tb (25600 * w + 400 * g.val) 200 6) (lane iv tb (25600 * w + 400 * g.val) 200 7) (shapeCast S1x16 (mulf (lane iv tb (25600 * w + 400 * g.val) 200 5) (broadcast S16 scale)) shapeCasts_S16_S1x16) >>= kk) Q) := by
  rw [k0_part3_eq_skeleton]
  unfold k0_part3_skel
  simp only [Prog.lift, Prog.bind_op, Prog.bind_ret, Prog.pure_eq_ret, Prog.bind_assoc]
  iintro ⟨Hst2, Hw, HO, #Hmw⟩ HK
  iapply (wp_outStore d L iv tb w f₀ ⟨2 * g.val + 0, row_lt g 0 (by omega)⟩ 5 (16 * g.val + 5) (25600 * w + 400 * g.val) (by simp only [Fin.val_mk]; show _ = _ + 5; omega)
    (by simp only [Fin.val_mk]; omega) (k0_off27_eq g 0) rfl) $$ Hw
  iintro Hw
  iapply (wp_outLoad d L) $$ Hw; iintro Hw
  iapply (wp_outStore d L iv tb w f₀ ⟨2 * g.val + 0, row_lt g 0 (by omega)⟩ 6 (16 * g.val + 6) (25600 * w + 400 * g.val) (by simp only [Fin.val_mk]; show _ = _ + 6; omega)
    (by simp only [Fin.val_mk]; omega) (k0_off28_eq g 0) rfl) $$ Hw
  iintro Hw
  iapply (wp_outLoad d L) $$ Hw; iintro Hw
  iapply (wp_outStore d L iv tb w f₀ ⟨2 * g.val + 0, row_lt g 0 (by omega)⟩ 7 (16 * g.val + 7) (25600 * w + 400 * g.val) (by simp only [Fin.val_mk]; show _ = _ + 7; omega)
    (by simp only [Fin.val_mk]; omega) (k0_off29_eq g 0) rfl) $$ Hw
  iintro Hw
  iapply (wp_waitSlot d L iv tb w 2 96 inb_S4x104x128_S1x96x128_2_0_0 squeezes_S1x96x128_S96x128 cc0_scratch5.sem 200 (qx 2) (ql 2) g.val (g_lt g) O W)
    $$ [Hst2 HO]
  · isplitl [Hst2]; · iexact Hst2
    isplitl [HO]; · iexact HO
    iexact Hmw
  iintro ⟨Hs, Hr, HO⟩
  iapply (wp_sumLoop d L iv tb k0_t4_loop k0_t4_ok 96 (by decide) (by omega) _ (offs4) (offs4_inb) (fun _ _ => rfl) 2
    (offs4_eq) (fun x h0 h1 => mem_slotV.mpr ⟨congrArg Fin.val h0, h1⟩) (25600 * w + 400 * g.val + 200) 0 (25600 * w + 400 * g.val + 200) 96 (by omega) rfl _ rfl) $$ Hs
  iintro Hs
  iapply HK
  isplitl [Hs]; · iexact Hs
  isplitl [Hr]; · iexact Hr
  isplitl [Hw]; · iexact Hw
  iexact HO

/-- The third slot's next gather issued, the fourth slot's rows added and its next gather issued, and three groups of the second row stored. -/
theorem wp_part4 (hiv : InRange iv) (g : Fin k0_t1_loop.trips) (a u u' : BitVec 32) {α : Type} {kk : (Σ' (_ : FVec F S16 .f32) (_ : FVec F S16 .f32) (_ : FVec F S16 .f32) (_ : FVec F S16 .f32), FVec F S1x16 .f32) → Prog (TpuEff nD τ sig (Elt F) Λ₀ (V d (cV L) (jV L)).2) α} {Q : α → sProp 𝕄} :
    iprop(((bV).view.loc (V d (cV L) (jV L)) ↦[(slotV 2 96 inb_S4x104x128_S1x96x128_2_0_0 squeezes_S1x96x128_S96x128).view.set]{fullShare} slotC iv tb (25600 * w + 400 * g.val + 200)) ∗ slotRest d L iv tb w cc0_scratch5.sem (qx 2) (ql 2) ∗ slotSt d L iv tb w 3 104 inb_S4x104x128_S1x104x128_3_0_0 squeezes_S1x104x128_S104x128 cc0_scratch6.sem 296 (qx 3) (ql 3) (g.val) ∗ ((wV).view.loc (V d (cV L) (jV L)) ↦{fullShare} outC iv tb w f₀ (16 * g.val + 8)) ∗ owesW d L O W ∗ Transfers.MayWaits (V d (cV L) (jV L)) (default : HIx 1) O)
      ⊢ iprop((iprop(slotSt d L iv tb w 2 96 inb_S4x104x128_S1x96x128_2_0_0 squeezes_S1x96x128_S96x128 cc0_scratch5.sem 200 (qx 2) (ql 2) (g.val + 1) ∗ slotSt d L iv tb w 3 104 inb_S4x104x128_S1x104x128_3_0_0 squeezes_S1x104x128_S104x128 cc0_scratch6.sem 296 (qx 3) (ql 3) (g.val + 1) ∗ ((wV).view.loc (V d (cV L) (jV L)) ↦{fullShare} outC iv tb w f₀ (16 * g.val + 11)) ∗ owesW d L O W)
            -∗ wp frame (wpE (defs₀ (F := F)) 𝒱₀ (V d (cV L) (jV L)) none) Set.univ (kk ⟨lane iv tb (25600 * w + 400 * g.val + 200) 200 4, lane iv tb (25600 * w + 400 * g.val + 200) 200 5, lane iv tb (25600 * w + 400 * g.val + 200) 200 6, lane iv tb (25600 * w + 400 * g.val + 200) 200 7, (shapeCast S1x16 (mulf (lane iv tb (25600 * w + 400 * g.val + 200) 200 3) (broadcast S16 scale)) shapeCasts_S16_S1x16)⟩) Q)
        -∗ wp frame (wpE (defs₀ (F := F)) 𝒱₀ (V d (cV L) (jV L)) none) Set.univ (k0_part4 L hV (Memref.isWhole_whole _) xV (Memref.isWhole_whole _) oV (Memref.isWhole_whole _) sV (Memref.isWhole_whole _) bV (Memref.isWhole_whole _)
    wV (Memref.isWhole_whole _) cc0_scratch3 cc0_scratch4 cc0_scratch5 cc0_scratch6 cc0_scoped0 cc0_scoped1
            scale g a u (lane iv tb (25600 * w + 400 * g.val + 200) 96 0) (lane iv tb (25600 * w + 400 * g.val + 200) 96 1) (lane iv tb (25600 * w + 400 * g.val + 200) 96 2) (lane iv tb (25600 * w + 400 * g.val + 200) 96 3) (lane iv tb (25600 * w + 400 * g.val + 200) 96 4) (lane iv tb (25600 * w + 400 * g.val + 200) 96 5) (lane iv tb (25600 * w + 400 * g.val + 200) 96 6) (lane iv tb (25600 * w + 400 * g.val + 200) 96 7) u' >>= kk) Q) := by
  rw [k0_part4_eq_skeleton]
  unfold k0_part4_skel
  simp only [Prog.lift, Prog.bind_op, Prog.bind_ret, Prog.pure_eq_ret, Prog.bind_assoc]
  iintro ⟨Hs, Hr, Hst3, Hw, HO, #Hmw⟩ HK
  iapply (wp_issueIf d L iv tb w 2 96 inb_S4x104x128_S1x96x128_2_0_0 squeezes_S1x96x128_S96x128 cc0_scratch5.sem 200 (qx 2) (ql 2) hiv g.val (g_lt g)
    gathers_S100000x128_S96x128 (k0_cond3 g) (cond3_iff g) (k0_off38 g) ((k0_off38_eq g).trans (by simp only [Nat.mul_add, Nat.add_assoc, Nat.mul_one, Nat.reduceAdd]))
    (k0_off38_inb g) credit2 numel96_pos) $$ [Hs Hr]
  · isplitl [Hs]; · iexact Hs
    iexact Hr
  iintro Hst2
  simp only [Prog.bind_op, Prog.bind_ret, Prog.bind_assoc]
  iapply (wp_waitSlot d L iv tb w 3 104 inb_S4x104x128_S1x104x128_3_0_0 squeezes_S1x104x128_S104x128 cc0_scratch6.sem 296 (qx 3) (ql 3) g.val (g_lt g) O W)
    $$ [Hst3 HO]
  · isplitl [Hst3]; · iexact Hst3
    isplitl [HO]; · iexact HO
    iexact Hmw
  iintro ⟨Hs, Hr, HO⟩
  iapply (wp_sumLoop d L iv tb k0_t5_loop k0_t5_ok 104 (by decide) (by omega) _ (offs5) (offs5_inb) (fun _ _ => rfl) 3
    (offs5_eq) (fun x h0 h1 => mem_slotV.mpr ⟨congrArg Fin.val h0, h1⟩) (25600 * w + 400 * g.val + 200) 96 (25600 * w + 400 * g.val + 296) 200 (by omega) rfl _ rfl) $$ Hs
  iintro Hs
  iapply (wp_issueIf d L iv tb w 3 104 inb_S4x104x128_S1x104x128_3_0_0 squeezes_S1x104x128_S104x128 cc0_scratch6.sem 296 (qx 3) (ql 3) hiv g.val (g_lt g)
    gathers_S100000x128_S104x128 (k0_cond4 g) (cond4_iff g) (k0_off47 g) ((k0_off47_eq g).trans (by simp only [Nat.mul_add, Nat.add_assoc, Nat.mul_one, Nat.reduceAdd]))
    (k0_off47_inb g) credit3 numel104_pos) $$ [Hs Hr]
  · isplitl [Hs]; · iexact Hs
    iexact Hr
  iintro Hst3
  simp only [Prog.bind_op, Prog.bind_ret, Prog.bind_assoc]
  iapply (wp_outLoad d L) $$ Hw; iintro Hw
  iapply (wp_outStore d L iv tb w f₀ ⟨2 * g.val + 1, row_lt g 1 (by omega)⟩ 0 (16 * g.val + 8) (25600 * w + 400 * g.val + 200) (by simp only [Fin.val_mk]; show _ = _ + 0; omega)
    (by simp only [Fin.val_mk]; omega) (k0_off22_eq g 1) rfl) $$ Hw
  iintro Hw
  iapply (wp_outLoad d L) $$ Hw; iintro Hw
  iapply (wp_outStore d L iv tb w f₀ ⟨2 * g.val + 1, row_lt g 1 (by omega)⟩ 1 (16 * g.val + 9) (25600 * w + 400 * g.val + 200) (by simp only [Fin.val_mk]; show _ = _ + 1; omega)
    (by simp only [Fin.val_mk]; omega) (k0_off23_eq g 1) rfl) $$ Hw
  iintro Hw
  iapply (wp_outLoad d L) $$ Hw; iintro Hw
  iapply (wp_outStore d L iv tb w f₀ ⟨2 * g.val + 1, row_lt g 1 (by omega)⟩ 2 (16 * g.val + 10) (25600 * w + 400 * g.val + 200) (by simp only [Fin.val_mk]; show _ = _ + 2; omega)
    (by simp only [Fin.val_mk]; omega) (k0_off24_eq g 1) rfl) $$ Hw
  iintro Hw
  iapply (wp_outLoad d L) $$ Hw; iintro Hw
  iapply HK
  isplitl [Hst2]; · iexact Hst2
  isplitl [Hst3]; · iexact Hst3
  isplitl [Hw]; · iexact Hw
  iexact HO

/-- The state between trips: four gathers under way, the first `16 * g` groups of the result stored. -/
def tripInv (g : ℕ) : sProp 𝕄 :=
  iprop(slotSt d L iv tb w 0 96 inb_S4x104x128_S1x96x128_0_0_0 squeezes_S1x96x128_S96x128 cc0_scratch3.sem 0 (qx 0) (ql 0) (g) ∗ slotSt d L iv tb w 1 104 inb_S4x104x128_S1x104x128_1_0_0 squeezes_S1x104x128_S104x128 cc0_scratch4.sem 96 (qx 1) (ql 1) (g) ∗ slotSt d L iv tb w 2 96 inb_S4x104x128_S1x96x128_2_0_0 squeezes_S1x96x128_S96x128 cc0_scratch5.sem 200 (qx 2) (ql 2) (g) ∗ slotSt d L iv tb w 3 104 inb_S4x104x128_S1x104x128_3_0_0 squeezes_S1x104x128_S104x128 cc0_scratch6.sem 296 (qx 3) (ql 3) (g) ∗ ((wV).view.loc (V d (cV L) (jV L)) ↦{fullShare} outC iv tb w f₀ (16 * (g))) ∗ owesW d L O W ∗ Transfers.MayWaits (V d (cV L) (jV L)) (default : HIx 1) O)

/-- One trip. -/
theorem wp_trip (hiv : InRange iv) (g : Fin k0_t1_loop.trips) :
    tripInv d L iv tb w qx ql O W f₀ g.val
      ⊢ wp frame (wpE (defs₀ (F := F)) 𝒱₀ (V d (cV L) (jV L)) none) Set.univ
          (k0_t1_body L hV (Memref.isWhole_whole _) xV (Memref.isWhole_whole _) oV (Memref.isWhole_whole _) sV (Memref.isWhole_whole _) bV (Memref.isWhole_whole _)
    wV (Memref.isWhole_whole _) cc0_scratch3 cc0_scratch4 cc0_scratch5 cc0_scratch6 cc0_scoped0 cc0_scoped1 scale g ()) fun _ => tripInv d L iv tb w qx ql O W f₀ (g.val + 1) := by
  unfold tripInv k0_t1_body
  iintro ⟨Hst0, Hst1, Hst2, Hst3, Hw, HO, #Hmw⟩
  iapply (wp_part1 d L iv tb w qx ql O W hiv g) $$ [Hst0 HO]
  · isplitl [Hst0]; · iexact Hst0
    isplitl [HO]; · iexact HO
    iexact Hmw
  iintro %a %v ⟨Hst0, HO⟩
  iapply (wp_part2 d L iv tb w qx ql O W f₀ hiv g a v) $$ [Hst1 Hw HO]
  · isplitl [Hst1]; · iexact Hst1
    isplitl [Hw]; · iexact Hw
    isplitl [HO]; · iexact HO
    iexact Hmw
  iintro ⟨Hst1, Hw, HO⟩
  iapply (wp_part3 d L iv tb w qx ql O W f₀ g a v) $$ [Hst2 Hw HO]
  · isplitl [Hst2]; · iexact Hst2
    isplitl [Hw]; · iexact Hw
    isplitl [HO]; · iexact HO
    iexact Hmw
  iintro %u %u' ⟨Hs, Hr, Hw, HO⟩
  iapply (wp_part4 d L iv tb w qx ql O W f₀ hiv g a u u') $$ [Hs Hr Hst3 Hw HO]
  · isplitl [Hs]; · iexact Hs
    isplitl [Hr]; · iexact Hr
    isplitl [Hst3]; · iexact Hst3
    isplitl [Hw]; · iexact Hw
    isplitl [HO]; · iexact HO
    iexact Hmw
  iintro ⟨Hst2, Hst3, Hw, HO⟩
  simp only [Prog.lift, Prog.bind_op, Prog.bind_ret, Prog.pure_eq_ret]
  iapply (wp_outStore d L iv tb w f₀ ⟨2 * g.val + 1, row_lt g 1 (by omega)⟩ 3 (16 * g.val + 11) (25600 * w + 400 * g.val + 200) (by simp only [Fin.val_mk]; show _ = _ + 3; omega)
    (by simp only [Fin.val_mk]; omega) (k0_off25_eq g 1) rfl) $$ Hw
  iintro Hw
  iapply (wp_outLoad d L) $$ Hw; iintro Hw
  iapply (wp_outStore d L iv tb w f₀ ⟨2 * g.val + 1, row_lt g 1 (by omega)⟩ 4 (16 * g.val + 12) (25600 * w + 400 * g.val + 200) (by simp only [Fin.val_mk]; show _ = _ + 4; omega)
    (by simp only [Fin.val_mk]; omega) (k0_off26_eq g 1) rfl) $$ Hw
  iintro Hw
  iapply (wp_outLoad d L) $$ Hw; iintro Hw
  iapply (wp_outStore d L iv tb w f₀ ⟨2 * g.val + 1, row_lt g 1 (by omega)⟩ 5 (16 * g.val + 13) (25600 * w + 400 * g.val + 200) (by simp only [Fin.val_mk]; show _ = _ + 5; omega)
    (by simp only [Fin.val_mk]; omega) (k0_off27_eq g 1) rfl) $$ Hw
  iintro Hw
  iapply (wp_outLoad d L) $$ Hw; iintro Hw
  iapply (wp_outStore d L iv tb w f₀ ⟨2 * g.val + 1, row_lt g 1 (by omega)⟩ 6 (16 * g.val + 14) (25600 * w + 400 * g.val + 200) (by simp only [Fin.val_mk]; show _ = _ + 6; omega)
    (by simp only [Fin.val_mk]; omega) (k0_off28_eq g 1) rfl) $$ Hw
  iintro Hw
  iapply (wp_outLoad d L) $$ Hw; iintro Hw
  iapply (wp_outStore d L iv tb w f₀ ⟨2 * g.val + 1, row_lt g 1 (by omega)⟩ 7 (16 * g.val + 15) (25600 * w + 400 * g.val + 200) (by simp only [Fin.val_mk]; show _ = _ + 7; omega)
    (by simp only [Fin.val_mk]; omega) (k0_off29_eq g 1) rfl) $$ Hw
  iintro Hw
  sl_step
  isplitl [Hst0]; · iexact Hst0
  isplitl [Hst1]; · iexact Hst1
  isplitl [Hst2]; · iexact Hst2
  isplitl [Hst3]; · iexact Hst3
  isplitl [Hw]
  · rw [show 16 * (g.val + 1) = 16 * g.val + 15 + 1 from by omega]; iexact Hw
  isplitl [HO]; · iexact HO
  iexact Hmw

end Cert.Proof.KernelIdeal
-- ==== Proof.KernelIdeal.Kit.lean ====
/-
  The task of one tile: fetch its list, gather and sum, write its block of the result.
-/
module

public import proofs.«01_k».proof.Proof.KernelIdeal.Trip
public import Idealize.ShloMosaic.Lib.ValueLayout

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

local notation "wV" => (Memref.whole Cert.KernelIdeal.cc0_scratch2 : Memref Cert.KernelIdeal.sig Kind.scVector Space.vmem Cert.KernelIdeal.S128x128 EltTy.f32)
local notation "hV" => (Memref.whole Cert.KernelIdeal.main_v0_scv : Memref Cert.KernelIdeal.sig Kind.scVector Space.hbm Cert.KernelIdeal.S819200 EltTy.i32)
local notation "oV" => (Memref.whole Cert.KernelIdeal.main_v1_scv : Memref Cert.KernelIdeal.sig Kind.scVector Space.hbm Cert.KernelIdeal.S4096x128 EltTy.f32)

/-! ## Leaves of a share -/

/-- The `i`-th of the `2 ^ n` equal parts of a share. -/
def part : (n : ℕ) → PosShare TreeShare → ℕ → PosShare TreeShare
  | 0, q, _ => q
  | n + 1, q, i => if i % 2 = 0 then part n q.left (i / 2) else part n q.right (i / 2)

/-- The parts of a share, by the parity of their number. -/
def parity (n : ℕ) : Fin (2 ^ n) ⊕ Fin (2 ^ n) ≃ Fin (2 ^ (n + 1)) where
  toFun := Sum.elim (fun i => ⟨2 * i.val, by omega⟩) (fun i => ⟨2 * i.val + 1, by omega⟩)
  invFun i := if i.val % 2 = 0 then .inl ⟨i.val / 2, by omega⟩ else .inr ⟨i.val / 2, by omega⟩
  left_inv x := by
    rcases x with x | x
    · simp
    · have h : (2 * x.val + 1) / 2 = x.val := by omega
      simp [h]
  right_inv i := by
    by_cases h : i.val % 2 = 0
    · apply Fin.ext; simp [h]; omega
    · apply Fin.ext; simp [h]; omega

theorem pointsTo_parts {ℓ : Loc nD τ sig} (I : Finset (Idx ℓ)) (f : Buf (Elt F) ℓ) :
    ∀ (n : ℕ) (q : PosShare TreeShare), (ℓ ↦[I]{q} f : sProp 𝕄) = bigSep Finset.univ fun i : Fin (2 ^ n) => ℓ ↦[I]{part n q i.val} f
  | 0, q => (bigSep_univ_of_subsingleton (0 : Fin 1) (Φ := fun i : Fin (2 ^ 0) => (ℓ ↦[I]{part 0 q i.val} f : sProp 𝕄))).symm
  | n + 1, q => by
    have h : (ℓ ↦[I]{q} f : sProp 𝕄) ⊣⊢ iprop((ℓ ↦[I]{q.left} f) ∗ ℓ ↦[I]{q.right} f) := pointsTo_share (PosShare.mem_left_op_right q)
    rw [BI.Entails.antisymm h.1 h.2, pointsTo_parts I f n q.left, pointsTo_parts I f n q.right,
      bigSep_univ_equiv (parity n) (fun i : Fin (2 ^ (n + 1)) => (ℓ ↦[I]{part (n + 1) q i.val} f : sProp 𝕄)), bigSep_univ_sum]
    congr 1 <;> refine bigSep_congr fun i _ => ?_
    · have e : part (n + 1) q ((parity n (.inl i)).val) = part n q.left i.val := by
        show (if (2 * i.val) % 2 = 0 then part n q.left ((2 * i.val) / 2) else part n q.right ((2 * i.val) / 2)) = _
        rw [if_pos (by omega), show 2 * i.val / 2 = i.val by omega]
      rw [e]
    · have e : part (n + 1) q ((parity n (.inr i)).val) = part n q.right i.val := by
        show (if (2 * i.val + 1) % 2 = 0 then part n q.left ((2 * i.val + 1) / 2) else part n q.right ((2 * i.val + 1) / 2)) = _
        rw [if_neg (by omega), show (2 * i.val + 1) / 2 = i.val by omega]
      rw [e]

/-- Four parts of a share. -/
theorem pointsTo_four {ℓ : Loc nD τ sig} (I : Finset (Idx ℓ)) (f : Buf (Elt F) ℓ) (q : PosShare TreeShare) :
    (ℓ ↦[I]{q} f : sProp 𝕄) = iprop((ℓ ↦[I]{part 2 q 0} f) ∗ (ℓ ↦[I]{part 2 q 1} f) ∗ (ℓ ↦[I]{part 2 q 2} f) ∗ (ℓ ↦[I]{part 2 q 3} f)) := by
  rw [pointsTo_parts I f 2 q]
  show bigSep (Finset.univ : Finset (Fin 4)) _ = _
  rw [show (Finset.univ : Finset (Fin 4)) = {0, 1, 2, 3} by decide, SparseCore.bigSep_insert' (by decide), SparseCore.bigSep_insert' (by decide),
    SparseCore.bigSep_insert' (by decide), bigSep_singleton]
  rfl

/-- A part of a set and the rest of it, at different contents, are the set at some contents. -/
theorem pointsTo_rejoin {ℓ : Loc nD τ sig} {A S : Finset (Idx ℓ)} (h : A ⊆ S) (f g : Buf (Elt F) ℓ) :
    iprop((ℓ ↦[A]{fullShare} f) ∗ (ℓ ↦[S \ A]{fullShare} g)) ⊢ (iprop(∃ k, ℓ ↦[S]{fullShare} k) : sProp 𝕄) := by
  classical
  iintro ⟨Hf, Hg⟩
  iexists (fun i => if i ∈ A then f i else g i)
  iapply (pointsTo_split_subset h).2
  isplitl [Hf]
  · iapply (Entails.of_eq (pointsTo_congr fun i hi => (if_pos hi).symm)); iexact Hf
  · iapply (Entails.of_eq (pointsTo_congr fun i hi => (if_neg (Finset.mem_sdiff.mp hi).2).symm)); iexact Hg

/-! ## What a tile is handed and hands back -/

/-- The rows of the result that belong to tile `w`. -/
def rowsOf (w : ℕ) : Finset OutS.Idx := Finset.univ.filter fun x => (x 0).val / 128 = w

/-- What a tile's task starts from: a share of the list, a share of the table, its rows of the result. -/
def tileIn (d : Dev nD) (iv : ListS.Idx → BitVec 32) (tb : TableS.Idx → F .f32) (fo : OutS.Idx → F .f32) (w : ℕ) : sProp 𝕄 :=
  iprop((vLoc d ↦{part 5 fullShare w} iv) ∗ (xLoc d ↦{part 5 fullShare w} tb) ∗ (oLoc d ↦[rowsOf w]{fullShare} fo))

/-- What it hands back: its rows of the result hold the scaled sums. -/
def tileOut (d : Dev nD) (iv : ListS.Idx → BitVec 32) (tb : TableS.Idx → F .f32) (w : ℕ) : sProp 𝕄 :=
  iprop((vLoc d ↦{part 5 fullShare w} iv) ∗ (xLoc d ↦{part 5 fullShare w} tb) ∗ (oLoc d ↦[rowsOf w]{fullShare} agg scale iv tb))

variable (d : Dev nD) (L : grid0.Coords)

/-- The tile's words of the list and its rows of the result, as the task addresses them. -/
abbrev listK : Memref sig .scVector .hbm S25600 .i32 := (hV).slice (Rect.unit (s := S819200) (k0_off1 L) S25600.size (k0_off1_inb L)) (fun _ => rfl)
abbrev rowsK : Memref sig .scVector .hbm S128x128 .f32 := (oV).slice (Rect.unit (s := S4096x128) (k0_off48 L) S128x128.size (k0_off48_inb L)) (fun _ => rfl)

theorem set_rowsK : (rowsK L).view.set = rowsOf (wid L) := by
  have h : (rowsK L).view.set = (Rect.unit (s := S4096x128) (k0_off48 L) S128x128.size (k0_off48_inb L)).set := by
    show ((oV).view.slice (Rect.unit (s := S4096x128) (k0_off48 L) S128x128.size (k0_off48_inb L))).set = _
    rw [View.set_slice]; exact Finset.map_refl
  rw [h]
  have e0 : k0_off48 L 0 = 128 * wid L := by rw [k0_off48_eq]; show 256 * (L 1).val + 128 * (L 0).val = _; unfold wid; omega
  have e1 : k0_off48 L 1 = 0 := by rw [k0_off48_eq]; rfl
  ext x
  rw [Rect.mem_set_unit]
  have h1 : (x 1).val < 128 := (x 1).isLt
  unfold rowsOf
  rw [Finset.mem_filter]
  constructor
  · intro hx
    have h0 : k0_off48 L 0 ≤ (x 0).val ∧ (x 0).val < k0_off48 L 0 + 128 := hx 0
    exact ⟨Finset.mem_univ _, by omega⟩
  · rintro ⟨-, hx⟩ a
    match a with
    | 0 => show k0_off48 L 0 ≤ (x 0).val ∧ (x 0).val < k0_off48 L 0 + 128; omega
    | 1 => show k0_off48 L 1 ≤ (x 1).val ∧ (x 1).val < k0_off48 L 1 + 128; omega

/-- What the fetch brings: the tile's words. -/
theorem listK_read (iv : ListS.Idx → BitVec 32) : (listK L).view.read (Elt F) iv = listC iv (wid L) := by
  funext x
  refine ((View.read_apply _ _).trans (cast_eq _ _)).trans ?_
  unfold listC place
  refine congrArg iv (funext fun a => ?_)
  match a with
  | 0 =>
    apply Fin.ext
    refine (ValueKit.rect_emb_unit_val (s := S819200) (k0_off1 L) S25600.size (k0_off1_inb L) x (0 : Fin 1)).trans ?_
    have e0 : k0_off1 L 0 = 25600 * wid L := by rw [k0_off1_eq]; show 51200 * (L 1).val + 25600 * (L 0).val = _; unfold wid; omega
    have hx : (x 0).val < 25600 := (x 0).isLt
    have hw := wid_lt L
    show k0_off1 L 0 + (x 0).val = (25600 * wid L + (x 0).val) % 819200
    omega

/-- What the write-out leaves: the tile's rows of the result. -/
theorem rowsK_write (iv : ListS.Idx → BitVec 32) (tb : TableS.Idx → F .f32) (fo : OutS.Idx → F .f32) (f₀ : S128x128.Idx → F .f32) :
    ∀ i ∈ (rowsK L).view.set, (rowsK L).view.write (Elt F) fo (outC iv tb (wid L) f₀ 1024) Finset.univ i = agg scale iv tb i := by
  intro i hi
  obtain ⟨x, -, rfl⟩ := Finset.mem_map.mp hi
  refine ((View.write_emb_of_mem _ _ (Finset.mem_univ x)).trans (cast_eq _ _)).trans ?_
  have h0 : (x 0).val < 128 := (x 0).isLt
  have h1 : (x 1).val < 128 := (x 1).isLt
  unfold outC agg
  rw [if_pos (by omega)]
  have e0 : ((((rowsK L).view.emb x : S4096x128.Idx)) 0).val = 128 * wid L + (x 0).val := by
    refine (ValueKit.rect_emb_unit_val (s := S4096x128) (k0_off48 L) S128x128.size (k0_off48_inb L) x (0 : Fin 2)).trans ?_
    have e : k0_off48 L 0 = 128 * wid L := by rw [k0_off48_eq]; show 256 * (L 1).val + 128 * (L 0).val = _; unfold wid; omega
    rw [e]
  have e1 : (((rowsK L).view.emb x : S4096x128.Idx)) 1 = x 1 := by
    apply Fin.ext
    refine (ValueKit.rect_emb_unit_val (s := S4096x128) (k0_off48 L) S128x128.size (k0_off48_inb L) x (1 : Fin 2)).trans ?_
    have e : k0_off48 L 1 = 0 := by rw [k0_off48_eq]; rfl
    rw [e]; exact Nat.zero_add _
  rw [e0, e1, show 200 * (128 * wid L + (x 0).val) = 25600 * wid L + 200 * (x 0).val by omega]

theorem outC_zero (iv : ListS.Idx → BitVec 32) (tb : TableS.Idx → F .f32) (w : ℕ) (f₀ : S128x128.Idx → F .f32) : outC iv tb w f₀ 0 = f₀ := by
  funext x; unfold outC; rw [if_neg (by omega)]

/-! ## The tile's own buffers and semaphores -/

theorem cell_ne {s t : SemLoc sig} (h : s ≠ t) : ((V d (cV L) (jV L), s) : GSem nD τ sig) ≠ (V d (cV L) (jV L), t) :=
  fun e => h (congrArg Prod.snd e)

theorem ownSems0_V :
    (ownSems0 (V d (cV L) (jV L)) : sProp 𝕄)
      = iprop(semVal (V d (cV L) (jV L), SemLoc.dma cc0_scratch3.sem) 0 ∗ semVal (V d (cV L) (jV L), SemLoc.dma cc0_scratch4.sem) 0 ∗ semVal (V d (cV L) (jV L), SemLoc.dma cc0_scratch5.sem) 0 ∗ semVal (V d (cV L) (jV L), SemLoc.dma cc0_scratch6.sem) 0 ∗ semVal (V d (cV L) (jV L), SemLoc.dma cc0_scoped0.sem) 0 ∗ semVal (V d (cV L) (jV L), SemLoc.dma cc0_scoped1.sem) 0
          ∗ bigSep ((((((((ownCells (V d (cV L) (jV L))).erase (V d (cV L) (jV L), SemLoc.dma cc0_scratch3.sem)).erase (V d (cV L) (jV L), SemLoc.dma cc0_scratch4.sem)).erase (V d (cV L) (jV L), SemLoc.dma cc0_scratch5.sem)).erase (V d (cV L) (jV L), SemLoc.dma cc0_scratch6.sem)).erase (V d (cV L) (jV L), SemLoc.dma cc0_scoped0.sem)).erase (V d (cV L) (jV L), SemLoc.dma cc0_scoped1.sem))) fun g => semVal g 0) := by
  unfold SparseCore.Cfg.ownSems0
  rw [SparseCore.bigSep_erase' ((mem_ownCells (g := (V d (cV L) (jV L), SemLoc.dma cc0_scratch3.sem))).mpr ⟨rfl, by
      show (SemLoc.dma cc0_scratch3.sem : SemLoc sig).isScoped .scVector = true; decide⟩),
    SparseCore.bigSep_erase' (Finset.mem_erase.mpr ⟨cell_ne d L (by decide), (mem_ownCells (g := (V d (cV L) (jV L), SemLoc.dma cc0_scratch4.sem))).mpr ⟨rfl, by
      show (SemLoc.dma cc0_scratch4.sem : SemLoc sig).isScoped .scVector = true; decide⟩⟩),
    SparseCore.bigSep_erase' (Finset.mem_erase.mpr ⟨cell_ne d L (by decide), Finset.mem_erase.mpr ⟨cell_ne d L (by decide), (mem_ownCells (g := (V d (cV L) (jV L), SemLoc.dma cc0_scratch5.sem))).mpr ⟨rfl, by
      show (SemLoc.dma cc0_scratch5.sem : SemLoc sig).isScoped .scVector = true; decide⟩⟩⟩),
    SparseCore.bigSep_erase' (Finset.mem_erase.mpr ⟨cell_ne d L (by decide), Finset.mem_erase.mpr ⟨cell_ne d L (by decide), Finset.mem_erase.mpr ⟨cell_ne d L (by decide), (mem_ownCells (g := (V d (cV L) (jV L), SemLoc.dma cc0_scratch6.sem))).mpr ⟨rfl, by
      show (SemLoc.dma cc0_scratch6.sem : SemLoc sig).isScoped .scVector = true; decide⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (V d (cV L) (jV L), SemLoc.dma cc0_scoped0.sem))).mpr ⟨rfl, by
      show (SemLoc.dma cc0_scoped0.sem : SemLoc sig).isScoped .scVector = true; decide⟩⟩⟩⟩⟩),
    SparseCore.bigSep_erase' (Finset.mem_erase.mpr ⟨cell_ne d L (by decide), Finset.mem_erase.mpr ⟨cell_ne d L (by decide), Finset.mem_erase.mpr ⟨cell_ne d L (by decide), Finset.mem_erase.mpr ⟨cell_ne d L (by decide), Finset.mem_erase.mpr ⟨cell_ne d L (by decide), (mem_ownCells (g := (V d (cV L) (jV L), SemLoc.dma cc0_scoped1.sem))).mpr ⟨rfl, by
      show (SemLoc.dma cc0_scoped1.sem : SemLoc sig).isScoped .scVector = true; decide⟩⟩⟩⟩⟩⟩)]

theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f)
          ∗ bigSep ((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L)) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩)]

end Cert.Proof.KernelIdeal
-- ==== Proof.KernelIdeal.Tile.lean ====
/-
  The task of one tile: fetch its list, gather and sum, write its block of the result.
-/
module

public import proofs.«01_k».proof.Proof.KernelIdeal.Kit
public import Idealize.ShloMosaic.Lib.ValueLayout

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

local notation "wV" => (Memref.whole Cert.KernelIdeal.cc0_scratch2 : Memref Cert.KernelIdeal.sig Kind.scVector Space.vmem Cert.KernelIdeal.S128x128 EltTy.f32)
local notation "hV" => (Memref.whole Cert.KernelIdeal.main_v0_scv : Memref Cert.KernelIdeal.sig Kind.scVector Space.hbm Cert.KernelIdeal.S819200 EltTy.i32)
local notation "oV" => (Memref.whole Cert.KernelIdeal.main_v1_scv : Memref Cert.KernelIdeal.sig Kind.scVector Space.hbm Cert.KernelIdeal.S4096x128 EltTy.f32)

variable (d : Dev nD) (L : grid0.Coords)

/-! ## The row buffer's four slots -/

/-- The first `n` rows of slot `t`. -/
def slotSet (t n : ℕ) : Finset S4x104x128.Idx := Finset.univ.filter fun x => (x 0).val = t ∧ (x 1).val < n

theorem slotV_slotSet {t n : ℕ} {inb : ∀ a, (![t, 0, 0] : Fin 3 → ℕ) a + (⟨3, ![1, n, 128]⟩ : Shape).size a ≤ S4x104x128.size a}
    {sq : (⟨3, ![1, n, 128]⟩ : Shape).Squeezes ⟨2, ![n, 128]⟩} : (slotV t n inb sq).view.set = slotSet t n := by
  ext x; unfold slotSet; rw [mem_slotV]; simp

/-- What the buffer has beyond its first `t` slots. -/
def beyond : ℕ → Finset S4x104x128.Idx
  | 0 => Finset.univ
  | t + 1 => beyond t \ slotSet t (if t % 2 = 0 then 96 else 104)

theorem mem_beyond {x : S4x104x128.Idx} : ∀ t, t ≤ (x 0).val → x ∈ beyond t
  | 0, _ => Finset.mem_univ _
  | t + 1, h => Finset.mem_sdiff.mpr ⟨mem_beyond t (by omega), fun hx => by
      unfold slotSet at hx; rw [Finset.mem_filter] at hx; omega⟩

theorem slot_beyond (t n : ℕ) : slotSet t n ⊆ beyond t := fun x hx => by
  unfold slotSet at hx; rw [Finset.mem_filter] at hx; exact mem_beyond t (by omega)

/-- A slot taken out of the buffer. -/
theorem take_slot {t n : ℕ} {inb : ∀ a, (![t, 0, 0] : Fin 3 → ℕ) a + (⟨3, ![1, n, 128]⟩ : Shape).size a ≤ S4x104x128.size a}
    {sq : (⟨3, ![1, n, 128]⟩ : Shape).Squeezes ⟨2, ![n, 128]⟩} (hn : n = if t % 2 = 0 then 96 else 104) (f : S4x104x128.Idx → F .f32) :
    ((bV).view.loc (V d (cV L) (jV L)) ↦[beyond t]{fullShare} f : sProp 𝕄)
      ⊢ iprop(((slotV t n inb sq).view.loc (V d (cV L) (jV L)) ↦[(slotV t n inb sq).view.set]{fullShare} f)
          ∗ ((bV).view.loc (V d (cV L) (jV L)) ↦[beyond (t + 1)]{fullShare} f)) := by
  rw [slotV_slotSet, show beyond (t + 1) = beyond t \ slotSet t n from hn ▸ rfl]
  exact (pointsTo_split_subset (slot_beyond t n)).1

/-- A slot put back. -/
theorem put_slot {t n : ℕ} {inb : ∀ a, (![t, 0, 0] : Fin 3 → ℕ) a + (⟨3, ![1, n, 128]⟩ : Shape).size a ≤ S4x104x128.size a}
    {sq : (⟨3, ![1, n, 128]⟩ : Shape).Squeezes ⟨2, ![n, 128]⟩} (hn : n = if t % 2 = 0 then 96 else 104) (f g : S4x104x128.Idx → F .f32) :
    iprop(((slotV t n inb sq).view.loc (V d (cV L) (jV L)) ↦[(slotV t n inb sq).view.set]{fullShare} f)
        ∗ ((bV).view.loc (V d (cV L) (jV L)) ↦[beyond (t + 1)]{fullShare} g))
      ⊢ (iprop(∃ k, (bV).view.loc (V d (cV L) (jV L)) ↦[beyond t]{fullShare} k) : sProp 𝕄) := by
  rw [slotV_slotSet, show beyond (t + 1) = beyond t \ slotSet t n from hn ▸ rfl]
  exact pointsTo_rejoin (ℓ := (bV).view.loc (V d (cV L) (jV L))) (A := slotSet t n) (S := beyond t) (slot_beyond t n) f g

set_option maxHeartbeats 4000000 in
/-- The task of the tile at grid point `L`. -/
theorem tile_body (iv : ListS.Idx → BitVec 32) (hiv : InRange iv) (tb : TableS.Idx → F .f32) (fo : OutS.Idx → F .f32) (hF : (K (F := F)).Facts)
    (O : CellTallies nD τ sig (HIx 1)) (W : Waits sig (HIx 1)) (hO : ∀ g, O g none = 0) :
    iprop(levAts (K (F := F)).L (K (F := F)).lev ∗ emp ∗ tileIn d iv tb fo (wid L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_agg L hV (Memref.isWhole_whole _) xV (Memref.isWhole_whole _) oV (Memref.isWhole_whole _) sV (Memref.isWhole_whole _) bV (Memref.isWhole_whole _)
            wV (Memref.isWhole_whole _) cc0_scratch3 cc0_scratch4 cc0_scratch5 cc0_scratch6 cc0_scoped0 cc0_scoped1)
          fun _ => iprop(tileOut d iv tb (wid L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0_agg_eq_skeleton]; unfold cc0_agg_skel
  rw [k0_part5_eq_skeleton]; unfold k0_part5_skel
  rw [(K (F := F)).scopedBufs_V hF d (cV L) (jV L), SparseCore.Cfg.scopedSems0_V (Val := Elt F) d (cV L) (jV L), ownSems0_V, ownBufs_V]
  unfold tileIn tileOut
  iintro ⟨#Hlv, -, ⟨Hv, Hx, Ho⟩, ⟨⟨%fs, Hs⟩, ⟨%fb, Hb⟩, ⟨%fw, Hw⟩, Hbufs⟩, ⟨Hs0, Hs1, Hs2, Hs3, HsA, HsB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  -- the fetch of the list
  ihave ⟨Hvk, Hvr⟩ := (pointsTo_split_subset (ℓ := vLoc d) (q := part 5 fullShare (wid L)) (f := iv) (S := Finset.univ) (Finset.subset_univ (listK L).view.set)).1 $$ Hv
  ihave Hvk := (Entails.of_eq (show (vLoc d ↦[(listK L).view.set]{part 5 fullShare (wid L)} iv : sProp 𝕄)
      = (listK L).view.loc (V d (cV L) (jV L)) ↦[(listK L).view.set]{part 5 fullShare (wid L)} iv from rfl)) $$ Hvk
  ihave Hs := (Entails.of_eq (show ((V d (cV L) (jV L)).loc cc0_scratch0 ↦{fullShare} fs : sProp 𝕄)
      = (sV).view.loc (V d (cV L) (jV L)) ↦{fullShare} fs from rfl)) $$ Hs
  have hs : ∀ p, p = (listK L).view.read (Elt F) iv → View.write (Elt F) (sV).view fs p Finset.univ = listC iv (wid L) := by
    intro p hp
    rw [View.write_whole_univ, hp]; exact listK_read L iv
  sl_exec
  ihave Hs := (Entails.of_eq (show ((sV).view.loc (V d (cV L) (jV L)) ↦{fullShare} View.write (Elt F) (sV).view fs (tile_body.sl.dma0 L iv) Finset.univ : sProp 𝕄)
      = (sV).view.loc (V d (cV L) (jV L)) ↦{fullShare} listC iv (wid L) by rw [hs (tile_body.sl.dma0 L iv) rfl])) $$ Hs
  simp only [Prog.lift, Prog.bind_op, Prog.bind_ret, Prog.pure_eq_ret, Prog.bind_assoc]
  -- the shares the four gathers read
  ihave ⟨Hxk, Hxr⟩ := (pointsTo_split_subset (ℓ := xLoc d) (q := part 5 fullShare (wid L)) (f := tb) (S := Finset.univ) (Finset.subset_univ (xAll).view.set)).1 $$ Hx
  ihave ⟨Hx0, Hx1, Hx2, Hx3⟩ := (Entails.of_eq (pointsTo_four (ℓ := xLoc d) (xAll).view.set tb (part 5 fullShare (wid L)))) $$ Hxk
  ihave ⟨Hl0, Hl1, Hl2, Hl3⟩ := (Entails.of_eq (pointsTo_four (ℓ := (sV).view.loc (V d (cV L) (jV L))) Finset.univ (listC iv (wid L)) fullShare)) $$ Hs
  ihave Hb := (Entails.of_eq (show ((V d (cV L) (jV L)).loc cc0_scratch1 ↦{fullShare} fb : sProp 𝕄)
      = (bV).view.loc (V d (cV L) (jV L)) ↦[beyond 0]{fullShare} fb from rfl)) $$ Hb
  ihave ⟨Hb0, Hb⟩ := (take_slot d L (t := 0) (n := 96) (inb := inb_S4x104x128_S1x96x128_0_0_0) (sq := squeezes_S1x96x128_S96x128) rfl fb) $$ Hb
  iapply (wp_issue d L iv hiv tb (wid L) 0 96 inb_S4x104x128_S1x96x128_0_0_0 squeezes_S1x96x128_S96x128 gathers_S100000x128_S96x128
    ![0] inb_S25600_S96_0 _ credit0 numel96_pos (25600 * wid L + 400 * 0 + 0) (by show _ = 25600 * wid L + 0; omega)
    (q := part 2 (part 5 fullShare (wid L)) 0) (qo := part 2 fullShare 0)) $$ [Hx0 Hb0 Hl0 Hs0]
  · isplitl [Hx0]; · iexact Hx0
    isplitl [Hb0]; · iexact Hb0
    isplitl [Hl0]; · iexact Hl0
    iexact Hs0
  iintro Hf0
  ihave ⟨Hb1, Hb⟩ := (take_slot d L (t := 1) (n := 104) (inb := inb_S4x104x128_S1x104x128_1_0_0) (sq := squeezes_S1x104x128_S104x128) rfl fb) $$ Hb
  iapply (wp_issue d L iv hiv tb (wid L) 1 104 inb_S4x104x128_S1x104x128_1_0_0 squeezes_S1x104x128_S104x128 gathers_S100000x128_S104x128
    ![96] inb_S25600_S104_96 _ credit1 numel104_pos (25600 * wid L + 400 * 0 + 96) (by show _ = 25600 * wid L + 96; omega)
    (q := part 2 (part 5 fullShare (wid L)) 1) (qo := part 2 fullShare 1)) $$ [Hx1 Hb1 Hl1 Hs1]
  · isplitl [Hx1]; · iexact Hx1
    isplitl [Hb1]; · iexact Hb1
    isplitl [Hl1]; · iexact Hl1
    iexact Hs1
  iintro Hf1
  ihave ⟨Hb2, Hb⟩ := (take_slot d L (t := 2) (n := 96) (inb := inb_S4x104x128_S1x96x128_2_0_0) (sq := squeezes_S1x96x128_S96x128) rfl fb) $$ Hb
  iapply (wp_issue d L iv hiv tb (wid L) 2 96 inb_S4x104x128_S1x96x128_2_0_0 squeezes_S1x96x128_S96x128 gathers_S100000x128_S96x128
    ![200] inb_S25600_S96_200 _ credit2 numel96_pos (25600 * wid L + 400 * 0 + 200) (by show _ = 25600 * wid L + 200; omega)
    (q := part 2 (part 5 fullShare (wid L)) 2) (qo := part 2 fullShare 2)) $$ [Hx2 Hb2 Hl2 Hs2]
  · isplitl [Hx2]; · iexact Hx2
    isplitl [Hb2]; · iexact Hb2
    isplitl [Hl2]; · iexact Hl2
    iexact Hs2
  iintro Hf2
  ihave ⟨Hb3, Hb⟩ := (take_slot d L (t := 3) (n := 104) (inb := inb_S4x104x128_S1x104x128_3_0_0) (sq := squeezes_S1x104x128_S104x128) rfl fb) $$ Hb
  iapply (wp_issue d L iv hiv tb (wid L) 3 104 inb_S4x104x128_S1x104x128_3_0_0 squeezes_S1x104x128_S104x128 gathers_S100000x128_S104x128
    ![296] inb_S25600_S104_296 _ credit3 numel104_pos (25600 * wid L + 400 * 0 + 296) (by show _ = 25600 * wid L + 296; omega)
    (q := part 2 (part 5 fullShare (wid L)) 3) (qo := part 2 fullShare 3)) $$ [Hx3 Hb3 Hl3 Hs3]
  · isplitl [Hx3]; · iexact Hx3
    isplitl [Hb3]; · iexact Hb3
    isplitl [Hl3]; · iexact Hl3
    iexact Hs3
  iintro Hf3
  -- the loop
  have h0 : ∀ (t n : ℕ) (inb : ∀ a, (![t, 0, 0] : Fin 3 → ℕ) a + (⟨3, ![1, n, 128]⟩ : Shape).size a ≤ S4x104x128.size a)
      (sq : (⟨3, ![1, n, 128]⟩ : Shape).Squeezes ⟨2, ![n, 128]⟩) (sem : DmaSem sig) (off : ℕ) (qx ql : PosShare TreeShare),
      (Transfers.Flight countersEmb (V d (cV L) (jV L)) (.dma sem) (default : HIx 1) (slotV t n inb sq).view.dmaCredit
        iprop(((slotV t n inb sq).view.loc (V d (cV L) (jV L)) ↦[(slotV t n inb sq).view.set]{fullShare} slotC iv tb (25600 * wid L + 400 * 0 + off))
          ∗ ((xAll).view.loc (V d (cV L) (jV L)) ↦[(xAll).view.set]{qx} tb) ∗ ((sV).view.loc (V d (cV L) (jV L)) ↦{ql} listC iv (wid L))) : sProp 𝕄)
      = slotSt d L iv tb (wid L) t n inb sq sem off qx ql 0 := by
    intro t n inb sq sem off qx ql; unfold slotSt; rw [if_pos (by omega)]
  have h64 : ∀ (t n : ℕ) (inb : ∀ a, (![t, 0, 0] : Fin 3 → ℕ) a + (⟨3, ![1, n, 128]⟩ : Shape).size a ≤ S4x104x128.size a)
      (sq : (⟨3, ![1, n, 128]⟩ : Shape).Squeezes ⟨2, ![n, 128]⟩) (sem : DmaSem sig) (off : ℕ) (qx ql : PosShare TreeShare),
      (slotSt d L iv tb (wid L) t n inb sq sem off qx ql 64 : sProp 𝕄)
      = iprop((∃ fd, (slotV t n inb sq).view.loc (V d (cV L) (jV L)) ↦[(slotV t n inb sq).view.set]{fullShare} fd)
          ∗ ((xAll).view.loc (V d (cV L) (jV L)) ↦[(xAll).view.set]{qx} tb) ∗ ((sV).view.loc (V d (cV L) (jV L)) ↦{ql} listC iv (wid L))
          ∗ semVal (V d (cV L) (jV L), SemLoc.dma sem) 0) := by
    intro t n inb sq sem off qx ql; unfold slotSt slotRest; rw [if_neg (by omega)]
  ihave Hf0 := (Entails.of_eq (h0 _ _ _ _ _ _ _ _)) $$ Hf0
  ihave Hf1 := (Entails.of_eq (h0 _ _ _ _ _ _ _ _)) $$ Hf1
  ihave Hf2 := (Entails.of_eq (h0 _ _ _ _ _ _ _ _)) $$ Hf2
  ihave Hf3 := (Entails.of_eq (h0 _ _ _ _ _ _ _ _)) $$ Hf3
  iapply (Scf.wp_for_bind frame (wpE (defs₀ (F := F)) 𝒱₀ (V d (cV L) (jV L)) none) Set.univ k0_t1_loop.lb k0_t1_loop.ub k0_t1_loop.st k0_t1_ok ⟨⟩ _
    (fun g _ => tripInv d L iv tb (wid L) (fun t => part 2 (part 5 fullShare (wid L)) t.val) (fun t => part 2 fullShare t.val) O W fw g) ?_)
    $$ [Hf0 Hf1 Hf2 Hf3 Hw HO]
  · intro g _
    exact wp_trip d L iv tb (wid L) _ _ O W fw hiv g
  · unfold tripInv
    isplitl [Hf0]; · iexact Hf0
    isplitl [Hf1]; · iexact Hf1
    isplitl [Hf2]; · iexact Hf2
    isplitl [Hf3]; · iexact Hf3
    isplitl [Hw]
    · rw [outC_zero]; iexact Hw
    isplitl [HO]
    · unfold owesW
      iexists _; isplitr
      swap; · iexact HO
      ipureintro; intro p hp
      rcases Finset.mem_insert.mp hp with hp | hp
      · exact .inr (hp ▸ rfl)
      · exact .inl hp
    iexact Hmw
  iintro %_ Hinv
  ihave Hinv := (Entails.of_eq (show tripInv d L iv tb (wid L) (fun t => part 2 (part 5 fullShare (wid L)) t.val) (fun t => part 2 fullShare t.val) O W fw
      (Scf.trips k0_t1_loop.lb k0_t1_loop.ub k0_t1_loop.st) = tripInv d L iv tb (wid L) (fun t => part 2 (part 5 fullShare (wid L)) t.val) (fun t => part 2 fullShare t.val) O W fw 64
      from congrArg _ (by decide))) $$ Hinv
  unfold tripInv owesW
  icases Hinv with ⟨Hf0, Hf1, Hf2, Hf3, Hw, ⟨%W', %hW', HO⟩, -⟩
  ihave ⟨⟨%f0, Hb0⟩, Hx0, Hl0, Hs0⟩ := (Entails.of_eq (h64 _ _ _ _ _ _ _ _)) $$ Hf0
  ihave ⟨⟨%f1, Hb1⟩, Hx1, Hl1, Hs1⟩ := (Entails.of_eq (h64 _ _ _ _ _ _ _ _)) $$ Hf1
  ihave ⟨⟨%f2, Hb2⟩, Hx2, Hl2, Hs2⟩ := (Entails.of_eq (h64 _ _ _ _ _ _ _ _)) $$ Hf2
  ihave ⟨⟨%f3, Hb3⟩, Hx3, Hl3, Hs3⟩ := (Entails.of_eq (h64 _ _ _ _ _ _ _ _)) $$ Hf3
  -- the write-out
  ihave Ho := (Entails.of_eq (show (oLoc d ↦[rowsOf (wid L)]{fullShare} fo : sProp 𝕄)
      = (rowsK L).view.loc (V d (cV L) (jV L)) ↦[(rowsK L).view.set]{fullShare} fo by rw [set_rowsK])) $$ Ho
  sl_exec
  have hw : ∀ i ∈ (rowsK L).view.set, (rowsK L).view.writes (Elt F) fo [⟨Rect.whole S128x128, tile_body.sl.dma0_1 d L iv tb fw⟩] i = agg scale iv tb i := by
    intro i hi
    refine Eq.trans ?_ (rowsK_write L iv tb fo fw i hi)
    have hpay : tile_body.sl.dma0_1 d L iv tb fw = outC iv tb (wid L) fw 1024 := by
      unfold tile_body.sl.dma0_1
      funext x; rfl
    rw [hpay]
    obtain ⟨x, -, rfl⟩ := Finset.mem_map.mp hi
    rw [View.writes_singleton]
    have hx : ((rowsK L).view.slice (Rect.whole S128x128)).emb x = (rowsK L).view.emb x := by
      show (rowsK L).view.emb ((Rect.whole S128x128).emb x) = _
      rw [Rect.emb_whole_apply]
    refine Eq.trans ?_ (View.write_emb_of_mem (v := (rowsK L).view) _ _ (Finset.mem_univ x)).symm
    have h := View.write_emb_of_mem (v := (rowsK L).view.slice (Rect.whole S128x128)) (Val := Elt F) fo (outC iv tb (wid L) fw 1024) (Finset.mem_univ x)
    rw [hx] at h
    exact h
  sl_step
  ihave Hb := (put_slot d L (t := 3) (n := 104) rfl f3 fb) $$ [Hb3 Hb]
  · isplitl [Hb3]; · iexact Hb3
    iexact Hb
  icases Hb with ⟨%g3, Hb⟩
  ihave Hb := (put_slot d L (t := 2) (n := 96) rfl f2 g3) $$ [Hb2 Hb]
  · isplitl [Hb2]; · iexact Hb2
    iexact Hb
  icases Hb with ⟨%g2, Hb⟩
  ihave Hb := (put_slot d L (t := 1) (n := 104) rfl f1 g2) $$ [Hb1 Hb]
  · isplitl [Hb1]; · iexact Hb1
    iexact Hb
  icases Hb with ⟨%g1, Hb⟩
  ihave Hb := (put_slot d L (t := 0) (n := 96) rfl f0 g1) $$ [Hb0 Hb]
  · isplitl [Hb0]; · iexact Hb0
    iexact Hb
  icases Hb with ⟨%g0, Hb⟩
  isplitl [Hvr Hx0 Hx1 Hx2 Hx3 Hxr Ho]
  · isplitl [Hvr]; · iexact Hvr
    isplitr [Ho]
    · iapply (pointsTo_split_subset (ℓ := xLoc d) (q := part 5 fullShare (wid L)) (f := tb) (S := Finset.univ) (Finset.subset_univ (xAll).view.set)).2
      isplitr [Hxr]
      · iapply (Entails.of_eq (pointsTo_four (ℓ := xLoc d) (xAll).view.set tb (part 5 fullShare (wid L))).symm)
        isplitl [Hx0]; · iexact Hx0
        isplitl [Hx1]; · iexact Hx1
        isplitl [Hx2]; · iexact Hx2
        iexact Hx3
      · iexact Hxr
    · iapply (Entails.of_eq (show ((rowsK L).view.loc (V d (cV L) (jV L)) ↦[(rowsK L).view.set]{fullShare} agg scale iv tb : sProp 𝕄)
        = oLoc d ↦[rowsOf (wid L)]{fullShare} agg scale iv tb by rw [set_rowsK]))
      iapply (Entails.of_eq (pointsTo_congr hw)); iexact Ho
  isplitl [Hl0 Hl1 Hl2 Hl3 Hb Hw Hbufs]
  · isplitl [Hl0 Hl1 Hl2 Hl3]
    · iexists _
      iapply (Entails.of_eq (pointsTo_four (ℓ := (sV).view.loc (V d (cV L) (jV L))) Finset.univ (listC iv (wid L)) fullShare).symm)
      isplitl [Hl0]; · iexact Hl0
      isplitl [Hl1]; · iexact Hl1
      isplitl [Hl2]; · iexact Hl2
      iexact Hl3
    isplitl [Hb]; · iexists _; iexact Hb
    isplitl [Hw]; · iexists _; iexact Hw
    iexact Hbufs
  isplitl [Hs0 Hs1 Hs2 Hs3 HsA HsB Hsems]
  · isplitl [Hs0]; · iexact Hs0
    isplitl [Hs1]; · iexact Hs1
    isplitl [Hs2]; · iexact Hs2
    isplitl [Hs3]; · iexact Hs3
    isplitl [HsA]; · iexact HsA
    isplitl [HsB]; · iexact HsB
    iexact Hsems
  iexists _; isplitr
  swap; · iexact HO
  ipureintro; intro p hp
  rcases Finset.mem_insert.mp hp with hp | hp
  · exact .inr (hp ▸ rfl)
  · exact hW' p hp

end Cert.Proof.KernelIdeal
-- ==== Proof.KernelIdeal.Region.lean ====
/-
  The TensorCore call: what its body leaves in the output block, the call as a kernel region, and the contents of the
  buffers after it.
-/
module

public import proofs.«01_k».proof.Proof.KernelIdeal.Setup

@[expose] public section

noncomputable section

namespace Cert.Proof.KernelIdeal

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

local notation "𝕄" => MT nD τ sig (HIx 1) (Elt F) ℕ UU ℕ

variable (W : Dev nD → Valuation τ sig (Elt F))

/-- What a buffer of core `c` holds when the call begins. -/
abbrev vin (c : Dev nD) (b : Ref sig .tc) : Buf (Elt F) ((c : Thread nD τ).loc b) := W c (Proc.devRef .tc b)

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (vin W c (Pipeline.arrRef spec1 w))

/-! ## The body -/

abbrev r0_0 : Rect S1024x128 := Rect.unit (s := S1024x128) ![0, 0] S1024x128.size inb_S1024x128_S1024x128_0_0
abbrev r0_1 : Rect S128x256 := Rect.unit (s := S128x256) ![0, 0] S128x256.size inb_S128x256_S128x256_0_0
abbrev r0_2 : Rect S1x256 := Rect.unit (s := S1x256) ![0, 0] S1x256.size inb_S1x256_S1x256_0_0
abbrev r0_3 : Rect S256x128 := Rect.unit (s := S256x128) ![0, 0] S256x128.size inb_S256x128_S256x128_0_0
abbrev r0_4 : Rect S1x128 := Rect.unit (s := S1x128) ![0, 0] S1x128.size inb_S1x128_S1x128_0_0

/-- The output block, from the seven input blocks. -/
def out7 (x0 : Vec F S1024x128 .f32) (x1 : Vec F S1024x128 .f32) (x2 : Vec F S128x256 .f32) (x3 : Vec F S128x256 .f32) (x4 : Vec F S1x256 .f32) (x5 : Vec F S256x128 .f32) (x6 : Vec F S1x128 .f32) : Vec F S1024x128 .f32 :=
  View.canon [⟨r0_0, k1_pay1 (View.ld x0 r0_0) (View.ld x2 r0_1) (View.ld x1 r0_0) (View.ld x3 r0_1) (View.ld x4 r0_2) (View.ld x5 r0_3) (View.ld x6 r0_4)⟩]

theorem cover7 (p0 : Vec F S1024x128 .f32) (y : S1024x128.Idx) :
    ∃ pc ∈ ([⟨r0_0, p0⟩] : List (View.Piece (Elt F) S1024x128 .f32)), y ∈ pc.1.set :=
  View.cover_of_tiled [⟨r0_0, p0⟩] S1024x128.size (by rfl) y

set_option maxHeartbeats 1000000 in
/-- The body on whole staging buffers: the inputs kept, the output block written. -/
theorem sound_kernel (c : Dev nD) (E : Set ℕ) (i : grid1.Coords) (arg1 : Memref sig .tc .vmem S1024x128 .f32) (harg1 : arg1.IsWhole) (arg2 : Memref sig .tc .vmem S1024x128 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S1024x128 .f32) (harg8 : arg8.IsWhole)
    (x0 : Vec F S1024x128 .f32) (x1 : Vec F S1024x128 .f32) (x2 : Vec F S128x256 .f32) (x3 : Vec F S128x256 .f32) (x4 : Vec F S1x256 .f32) (x5 : Vec F S256x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out7 x0 x1 x2 x3 x4 x5 x6)) -∗ K ⟨⟩))
      ⊢ wp frame (wpE (defs₀ (F := F)) Variants.none c none) E (cc1_body i arg1 harg1 arg2 harg2 arg3 harg3 arg4 harg4 arg5 harg5 arg6 harg6 arg7 harg7 arg8 harg8) K := by
  simp only [cc1_body_eq_skeleton]; unfold cc1_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover7 _)

/-! ## The call's data -/

/-- The call's data on core `c`: the arrays as it finds them; after the body each input's buffer at its block and the
    output's at the body's block; nothing owed; the waits recorded before it bounded by level 8. -/
def dats (_ : Fin 1) (c : Dev nD) : Dat τ (Elt F) (HIx 1) ℕ UU ℕ cfg1 c where
  A w := vin W c (Pipeline.arrRef spec1 w)
  after w t := match w with
    | ⟨0, _⟩ => iblk W c 0 t
    | ⟨1, _⟩ => iblk W c 1 t
    | ⟨2, _⟩ => iblk W c 2 t
    | ⟨3, _⟩ => iblk W c 3 t
    | ⟨4, _⟩ => iblk W c 4 t
    | ⟨5, _⟩ => iblk W c 5 t
    | ⟨6, _⟩ => iblk W c 6 t
    | ⟨7, _⟩ => out7 (iblk W c 0 t) (iblk W c 1 t) (iblk W c 2 t) (iblk W c 3 t) (iblk W c 4 t) (iblk W c 5 t) (iblk W c 6 t)
  Φ _ := iprop(emp)
  q _ := fullShare
  owed _ := 0
  recorded _ := {p | (K (F := F)).lev ((c : Thread nD τ), p.1) p.2 ≤ 8}

theorem A_eq (c : Dev nD) (w : Fin cfg1.W) : (dats W 0 c).A w = vin W c (Pipeline.arrRef spec1 w) := by
  dsimp only [dats]

theorem after_0 (c : Dev nD) (t : Fin cfg1.N) : (dats W 0 c).after 0 t = iblk W c 0 t := by dsimp only [dats]
theorem after_1 (c : Dev nD) (t : Fin cfg1.N) : (dats W 0 c).after 1 t = iblk W c 1 t := by dsimp only [dats]
theorem after_2 (c : Dev nD) (t : Fin cfg1.N) : (dats W 0 c).after 2 t = iblk W c 2 t := by dsimp only [dats]
theorem after_3 (c : Dev nD) (t : Fin cfg1.N) : (dats W 0 c).after 3 t = iblk W c 3 t := by dsimp only [dats]
theorem after_4 (c : Dev nD) (t : Fin cfg1.N) : (dats W 0 c).after 4 t = iblk W c 4 t := by dsimp only [dats]
theorem after_5 (c : Dev nD) (t : Fin cfg1.N) : (dats W 0 c).after 5 t = iblk W c 5 t := by dsimp only [dats]
theorem after_6 (c : Dev nD) (t : Fin cfg1.N) : (dats W 0 c).after 6 t = iblk W c 6 t := by dsimp only [dats]
theorem after_7 (c : Dev nD) (t : Fin cfg1.N) : (dats W 0 c).after 7 t = out7 (iblk W c 0 t) (iblk W c 1 t) (iblk W c 2 t) (iblk W c 3 t) (iblk W c 4 t) (iblk W c 5 t) (iblk W c 6 t) := by dsimp only [dats]

/-- An input's staging buffer holds its block when the body starts. -/
theorem before_0 (c : Dev nD) (t : Fin cfg1.N) (d) : (dats W 0 c).before 0 t d = iblk W c 0 t :=
  ((dats W 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats W 0 c).before 1 t d = iblk W c 1 t :=
  ((dats W 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats W 0 c).before 2 t d = iblk W c 2 t :=
  ((dats W 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats W 0 c).before 3 t d = iblk W c 3 t :=
  ((dats W 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg1.N) (d) : (dats W 0 c).before 4 t d = iblk W c 4 t :=
  ((dats W 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats W 0 c).before 5 t d = iblk W c 5 t :=
  ((dats W 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats W 0 c).before 6 t d = iblk W c 6 t :=
  ((dats W 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-! ## The body obligation, at a generic point -/

/-- What the body is called with at point `t`, -/
def bodyPre (c : Dev nD) (t : Fin cfg1.N) : sProp 𝕄 :=
  iprop((dats W 0 c).Φ t.castSucc ∗ (dats W 0 c).owesAt none t.castSucc
    ∗ (∃ d, owns (c : Thread nD τ) (st1_0 t) fullShare ((dats W 0 c).before 0 t d))
    ∗ (∃ d, owns (c : Thread nD τ) (st1_1 t) fullShare ((dats W 0 c).before 1 t d))
    ∗ (∃ d, owns (c : Thread nD τ) (st1_2 t) fullShare ((dats W 0 c).before 2 t d))
    ∗ (∃ d, owns (c : Thread nD τ) (st1_3 t) fullShare ((dats W 0 c).before 3 t d))
    ∗ (∃ d, owns (c : Thread nD τ) (st1_4 t) fullShare ((dats W 0 c).before 4 t d))
    ∗ (∃ d, owns (c : Thread nD τ) (st1_5 t) fullShare ((dats W 0 c).before 5 t d))
    ∗ (∃ d, owns (c : Thread nD τ) (st1_6 t) fullShare ((dats W 0 c).before 6 t d))
    ∗ (∃ d, owns (c : Thread nD τ) (st1_7 t) fullShare ((dats W 0 c).before 7 t d)))

/-- and what it returns. -/
def bodyPost (c : Dev nD) (t : Fin cfg1.N) : sProp 𝕄 :=
  iprop((dats W 0 c).Φ t.succ ∗ (dats W 0 c).owesAt none t.succ
    ∗ owns (c : Thread nD τ) (st1_0 t) fullShare ((dats W 0 c).after 0 t)
    ∗ owns (c : Thread nD τ) (st1_1 t) fullShare ((dats W 0 c).after 1 t)
    ∗ owns (c : Thread nD τ) (st1_2 t) fullShare ((dats W 0 c).after 2 t)
    ∗ owns (c : Thread nD τ) (st1_3 t) fullShare ((dats W 0 c).after 3 t)
    ∗ owns (c : Thread nD τ) (st1_4 t) fullShare ((dats W 0 c).after 4 t)
    ∗ owns (c : Thread nD τ) (st1_5 t) fullShare ((dats W 0 c).after 5 t)
    ∗ owns (c : Thread nD τ) (st1_6 t) fullShare ((dats W 0 c).after 6 t)
    ∗ owns (c : Thread nD τ) (st1_7 t) fullShare ((dats W 0 c).after 7 t))

/-- The body at any point. -/
theorem sound_body (c : Dev nD) (t : Fin cfg1.N) :
    bodyPre W c t ⊢ wp frame (wpE (defs₀ (F := F)) Variants.none c none) Set.univ (bodyAt1 t) (fun _ => bodyPost W c t) := by
  unfold bodyPre bodyPost bodyAt1
  simp only [before_0, before_1, before_2, before_3, before_4, before_5, before_6]
  rw [show (dats W 0 c).Φ t.succ = (dats W 0 c).Φ t.castSucc from rfl,
    show (dats W 0 c).owesAt none t.succ = (dats W 0 c).owesAt none t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid1.coords t) _ _ _ _ _ _ _ _ _ _ _ _ _ _ _ _ (iblk W c 0 t) (iblk W c 1 t) (iblk W c 2 t) (iblk W c 3 t) (iblk W c 4 t) (iblk W c 5 t) (iblk W c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg1.N) :
    defs₀ (F := F) .tc cfg1.body (cfg1.bodyArgs t (cfg1.slots t)) = bodyAt1 t := rfl

theorem body_obligation (c : Dev nD) : BodyObligation (dats (F := F) W 0 c) (defs₀ (F := F)) Variants.none none Set.univ := fun t => by
  rw [bigSep_W1, bigSep_W1, defs₀_row]
  exact triple_restated (sound_body W c t) rfl .rfl fun _ => .rfl

/-! ## The call as a kernel region -/

abbrev adm : (p : Fin 1) → (pcfgs (F := F) p).Adm := fun p => (cfgs p).toPCfg_adm

theorem kit : Pipeline.PLaunchFacts (nD := nD) (τ := τ) (pcfgs (F := F)) 0 := launch1.toP

/-- The core owing nothing, its recorded waits at or below level 8. -/
def idle (c : Dev nD) : sProp 𝕄 :=
  iprop(∃ Wt, ⌜(K (F := F)).WBelow (c : Thread nD τ) Wt 8⌝ ∗ owes (c : Thread nD τ) (0 : CellTallies nD τ sig (HIx 1)) Wt)

/-- What the buffers hold after the call. -/
def Wout (c : Dev nD) : Valuation τ sig (Elt F) := Pipeline.afterRegion (dats W 0 c) (W c)

theorem share_eq (c : Dev nD) (w : Fin cfg1.W) : (dats W 0 c).share w = fullShare := (dats W 0 c).share_full (fun _ => rfl) w

def region : Pipeline.RegionSeg (pcfgs (F := F)) adm (dats W) (none : HIx 1) defs₀ Variants.none (K (F := F)).L (K (F := F)).lev 0 where
  win := (kit (F := F)).win.to₀
  block_pos := (kit (F := F)).block_pos
  stage_whole := (kit (F := F)).stage_whole
  K := PEmpty
  osem := fun k => k.elim
  ho := Pipeline.OwnSemFacts.none _
  hbody := fun c => (body_obligation W c).loose
  hwaits := Pipeline.hwaits_of_owed_zero (pcfgs (F := F)) adm (dats W) none _ _ 0 fun _ _ => rfl
  pre := fun c => iprop(StableHlo.held (c.tc : Thread nD τ) (Pipeline.ucRefs τ sig) (W c) ∗ idle c)
  post := fun c => iprop(StableHlo.held (c.tc : Thread nD τ) (Pipeline.ucRefs τ sig) (Wout W c) ∗ idle c)
  X := fun _ => iprop(emp)
  Y := fun _ => iprop(emp)
  Z := fun c => Pipeline.unscopedRest (Ix := HIx 1) (Name := ℕ) (U := UU) (Lvl := ℕ) spec1 c (fun b => W c (Proc.devRef .tc b))
  hentry := fun c => by
    rw [Pipeline.ownSems0_none,
      show StableHlo.held (c.tc : Thread nD τ) (Pipeline.ucRefs τ sig) (W c) = unscopedBufs c (fun b => W c (Proc.devRef .tc b))
        from (Pipeline.unscopedBufs_held (Ix := HIx 1) (Name := ℕ) (U := UU) (Lvl := ℕ) c (W c)).symm]
    have hsplit := Pipeline.arrays_of_unscopedBufs (p := 0) (pcfgs (F := F)) adm (dats W) (kit (F := F)).win (kit (F := F)).arr_whole c (share_eq W c)
      (fun b => W c (Proc.devRef .tc b)) (fun w => A_eq W c w)
    unfold idle
    iintro ⟨⟨Hub, %Wt, %hWt, HO⟩, -, -⟩
    ihave H := hsplit $$ Hub
    icases H with ⟨Ha, Hrest⟩
    imodintro
    isplitl [Ha]; · iexact Ha
    isplitr
    · unfold Pipeline.prefHeld
      iapply (show (BI.emp : sProp 𝕄) ⊢ bigSep (Finset.univ : Finset (Fin 0)) _ from by
        rw [show (Finset.univ : Finset (Fin 0)) = ∅ from rfl, BI.bigSep_empty])
      iempintro
    isplitl [HO]
    · unfold Dat.owesAt Pipeline.owesWithin
      iexists Wt; isplitr
      · ipureintro; exact fun p hp => .inl (hWt p hp)
      iexact HO
    isplitr; · iempintro
    iexact Hrest
  hin := fun c => by
    show _ ⊢ (BI.emp : sProp 𝕄)
    iintro -; iempintro
  hout := fun c => by
    rw [Pipeline.ownSems0_none, show (Pipeline.pin (pcfgs (F := F)) adm 0).spec = spec1 from rfl, scopedRest1_eq]
    show (BI.emp : sProp 𝕄) ⊢ _
    iintro -
    isplitr; · iempintro
    isplitr <;> iempintro
  hexit := fun c => by
    have hjoin := Pipeline.unscopedBufs_of_arrays (p := 0) (pcfgs (F := F)) adm (Ix := HIx 1) (Name := ℕ) (U := UU) (Lvl := ℕ)
      (kit (F := F)).win (kit (F := F)).arr_whole c (dats W) (share_eq W c)
      (fun b => W c (Proc.devRef .tc b)) (fun b => Wout W c (Proc.devRef .tc b)) ((dats W 0 c).arrAt · cfg1.N)
      (fun w => (Pipeline.afterRegion_arr (dats W 0 c) (W c) winFacts1.arr_inj w).symm)
      (fun b hb => Pipeline.afterRegion_of_not_arr (dats W 0 c) (W c)
        fun w h => hb (h ▸ Finset.mem_image.mpr ⟨w, Finset.mem_univ _, rfl⟩))
    rw [show StableHlo.held (c.tc : Thread nD τ) (Pipeline.ucRefs τ sig) (Wout W c) = unscopedBufs c (fun b => Wout W c (Proc.devRef .tc b))
        from (Pipeline.unscopedBufs_held (Ix := HIx 1) (Name := ℕ) (U := UU) (Lvl := ℕ) c (Wout W c)).symm]
    iintro ⟨Ha, HO, -, Hrest⟩
    imodintro
    isplitl [Ha Hrest]
    · iapply hjoin; isplitl [Ha] <;> iassumption
    unfold Dat.owesAt Pipeline.owesWithin idle
    icases HO with ⟨%Wt, %hWt, HO⟩
    iexists Wt; isplitr
    · ipureintro
      intro p hp
      rcases hWt hp with h | ⟨w, s, h⟩
      · exact h
      · subst h; exact Nat.zero_le _
    iexact HO

end Cert.Proof.KernelIdeal

end
-- ==== Proof.KernelIdeal.Launch.lean ====
/-
  The launch: what the SparseCore call hands its tiles and gets back, the whole program on the TensorCore, and the
  contents of every buffer when it ends.
-/
module

public import proofs.«01_k».proof.Proof.KernelIdeal.Tile
public import proofs.«01_k».proof.Proof.KernelIdeal.Region

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

local notation "𝕄" => MT nD τ sig (HIx 1) (Elt F) ℕ UU ℕ
local notation "bV" => (Memref.whole Cert.KernelIdeal.cc0_scratch1 : Memref Cert.KernelIdeal.sig Kind.scVector Space.vmem Cert.KernelIdeal.S4x104x128 EltTy.f32)

local notation "xV" => (Memref.whole Cert.KernelIdeal.main_arg1_scv : Memref Cert.KernelIdeal.sig Kind.scVector Space.hbm Cert.KernelIdeal.S100000x128 EltTy.f32)
local notation "sV" => (Memref.whole Cert.KernelIdeal.cc0_scratch0 : Memref Cert.KernelIdeal.sig Kind.scVector Space.vmem Cert.KernelIdeal.S25600 EltTy.i32)

local notation "wV" => (Memref.whole Cert.KernelIdeal.cc0_scratch2 : Memref Cert.KernelIdeal.sig Kind.scVector Space.vmem Cert.KernelIdeal.S128x128 EltTy.f32)
local notation "hV" => (Memref.whole Cert.KernelIdeal.main_v0_scv : Memref Cert.KernelIdeal.sig Kind.scVector Space.hbm Cert.KernelIdeal.S819200 EltTy.i32)
local notation "oV" => (Memref.whole Cert.KernelIdeal.main_v1_scv : Memref Cert.KernelIdeal.sig Kind.scVector Space.hbm Cert.KernelIdeal.S4096x128 EltTy.f32)

variable (m : (ℓ : Loc nD τ sig) → Buf (Elt F) ℓ) (ρ : Dev nD → PrngReg)

/-! ## The buffers' contents, step by step -/

/-- The host operation before the SparseCore call, and those after it. -/
def ops0 : List (HloOp τ sig (Elt F)) :=
  [StableHlo.reshape main_arg2 main_v0 (rfl : (.i32 : EltTy) = .i32) shapeCasts_S4096x200_S819200]

def ops1 : List (HloOp τ sig (Elt F)) :=
  [StableHlo.unary main_arg3 main_v2 ((extractStridedSlice S128x256 ![0, 0] · slices_S256x256_S128x256_0_0) : (⟨S256x256, .f32⟩ : BufTy).Contents (Elt F) → (⟨S128x256, .f32⟩ : BufTy).Contents (Elt F)),
   StableHlo.unary main_arg3 main_v3 ((extractStridedSlice S128x256 ![128, 0] · slices_S256x256_S128x256_128_0) : (⟨S256x256, .f32⟩ : BufTy).Contents (Elt F) → (⟨S128x256, .f32⟩ : BufTy).Contents (Elt F)),
   StableHlo.reshape main_arg4 main_v4 (rfl : (.f32 : EltTy) = .f32) shapeCasts_S256_S1x256,
   StableHlo.reshape main_arg6 main_v5 (rfl : (.f32 : EltTy) = .f32) shapeCasts_S128_S1x128]

theorem ops0_bufs : ∀ op ∈ (ops0 : List (HloOp τ sig (Elt F))), op.bufs ⊆ Pipeline.ucRefs τ sig := by
  intro op h
  refine Pipeline.sub_ucRefs op ?_
  unfold ops0 at h
  simp only [List.mem_singleton] at h
  subst h
  exact StableHlo.reshape_bufs_sub ..

theorem ops1_bufs : ∀ op ∈ (ops1 : List (HloOp τ sig (Elt F))), op.bufs ⊆ Pipeline.ucRefs τ sig := by
  intro op h
  refine Pipeline.sub_ucRefs op ?_
  unfold ops1 at h
  simp only [List.mem_cons, List.not_mem_nil, or_false] at h
  rcases h with rfl | rfl | rfl | rfl
  · exact StableHlo.unary_bufs_sub ..
  · exact StableHlo.unary_bufs_sub ..
  · exact StableHlo.reshape_bufs_sub ..
  · exact StableHlo.reshape_bufs_sub ..

theorem ops0_fresh : ∀ op ∈ (ops0 : List (HloOp τ sig (Elt F))), op.fresh = ∅ := by
  intro _ h; unfold ops0 at h; (repeat (cases h with | head => rfl | tail _ h => ?_)); exact nomatch h

theorem ops1_fresh : ∀ op ∈ (ops1 : List (HloOp τ sig (Elt F))), op.fresh = ∅ := by
  intro _ h; unfold ops1 at h; (repeat (cases h with | head => rfl | tail _ h => ?_)); exact nomatch h

/-- When the SparseCore call begins, -/
def W1 (d : Dev nD) : Valuation τ sig (Elt F) := StableHlo.after ops0 (StableHlo.launchContents m d)

/-- its list, its table and its result array, -/
def iv (d : Dev nD) : ListS.Idx → BitVec 32 := W1 m d (Proc.devRef .tc main_v0)
def tb (d : Dev nD) : TableS.Idx → F .f32 := W1 m d (Proc.devRef .tc main_arg1)
def fo (d : Dev nD) : OutS.Idx → F .f32 := W1 m d (Proc.devRef .tc main_v1)

/-- when it is over, -/
def W2 (d : Dev nD) : Valuation τ sig (Elt F) := Function.update (W1 m d) (Proc.devRef .tc main_v1) (agg scale (iv m d) (tb m d))

/-- when the TensorCore call begins, -/
def W3 (d : Dev nD) : Valuation τ sig (Elt F) := StableHlo.after ops1 (W2 m d)

/-- and at the end. -/
def W4 (d : Dev nD) : Valuation τ sig (Elt F) := Wout (W3 m) d

/-! ## What the tiles are handed and hand back -/

def P : (K (F := F)).Pay (nD := nD) (Val := Elt F) (Name := ℕ) (U := UU) where
  st := fun q d c => match q with | 0 => bigSep Finset.univ fun i : Fin 16 => tileIn d (iv m d) (tb m d) (fo m d) (2 * i.val + c.val)
  dn := fun q d c => match q with | 0 => bigSep Finset.univ fun i : Fin 16 => tileOut d (iv m d) (tb m d) (2 * i.val + c.val)
  go := fun q d c i => match q with | 0 => tileIn d (iv m d) (tb m d) (fo m d) (2 * i.val + c.val)
  td := fun q d c i => match q with | 0 => tileOut d (iv m d) (tb m d) (2 * i.val + c.val)
  x := fun _ _ => iprop(emp)

instance tileIn_storable (d : Dev nD) (a b c) (w : ℕ) : BI.Storable (upEmb : UEmb _ 𝕄) (tileIn (F := F) d a b c w) := by
  unfold tileIn; infer_instance

instance tileOut_storable (d : Dev nD) (a b) (w : ℕ) : BI.Storable (upEmb : UEmb _ 𝕄) (tileOut (F := F) d a b w) := by
  unfold tileOut; infer_instance

instance P_storable : (P (F := F) m).IsStorable where
  st q d c := match q with
    | 0 => (inferInstance : BI.Storable (upEmb : UEmb _ 𝕄) (bigSep Finset.univ fun i : Fin 16 => tileIn d (iv m d) (tb m d) (fo m d) (2 * i.val + c.val)))
  dn q d c := match q with
    | 0 => (inferInstance : BI.Storable (upEmb : UEmb _ 𝕄) (bigSep Finset.univ fun i : Fin 16 => tileOut d (iv m d) (tb m d) (2 * i.val + c.val)))
  go q d c i := match q with
    | 0 => (inferInstance : BI.Storable (upEmb : UEmb _ 𝕄) (tileIn d (iv m d) (tb m d) (fo m d) (2 * i.val + c.val)))
  td q d c i := match q with
    | 0 => (inferInstance : BI.Storable (upEmb : UEmb _ 𝕄) (tileOut d (iv m d) (tb m d) (2 * i.val + c.val)))

def coordsV (c : Fin (grid0.bound 0)) (s : Fin (grid0.bound 1)) : grid0.Coords :=
  fun | 0 => c | 1 => s | ⟨_ + 2, h⟩ => absurd h (Nat.not_lt.2 (Nat.le_add_left _ _))

theorem wid_coordsV (c : Fin (grid0.bound 0)) (s : Fin (grid0.bound 1)) : wid (coordsV c s) = 2 * s.val + c.val := rfl

theorem defs₀_vector (c : Fin τ.nSC) (s : Fin τ.nSub) :
    defs₀ (F := F) (.scVector c s) 0 ()
      = SparseCore.onTile hcore0 hsub0 (fun c s => cc0_agg (coordsV c s) hV (Memref.isWhole_whole _) xV (Memref.isWhole_whole _) oV (Memref.isWhole_whole _)
          sV (Memref.isWhole_whole _) bV (Memref.isWhole_whole _) wV (Memref.isWhole_whole _) cc0_scratch3 cc0_scratch4 cc0_scratch5 cc0_scratch6
          cc0_scoped0 cc0_scoped1) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task. -/
theorem tileObl (hF : (K (F := F)).Facts) (hiv : ∀ d, InRange (iv m d)) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (iv m d) (hiv d) (tb m d) (fo m d) hF O W hO).trans (wp_mono frame _ _ fun _ => obl_post)

theorem vecSplit : (K (F := F)).VecSplit' (P m) 0 := by
  intro d c
  show (bigSep Finset.univ fun i : Fin 16 => tileIn d (iv m d) (tb m d) (fo m d) (2 * i.val + c.val)) ⊢ |={Set.univ}=> iprop(
      (bigSep Finset.univ fun i : Fin 16 => tileIn d (iv m d) (tb m d) (fo m d) (2 * i.val + c.val))
      ∗ ((bigSep Finset.univ fun i : Fin 16 => tileOut d (iv m d) (tb m d) (2 * i.val + c.val))
          -∗ bigSep Finset.univ fun i : Fin 16 => tileOut d (iv m d) (tb m d) (2 * i.val + c.val)))
  iintro H; imodintro
  isplitl [H]; · iexact H
  iintro H; iexact H

/-! ## The arrays shared out among the tiles -/

/-- The tiles, by SparseCore and subcore. -/
def tiles : Fin 2 × Fin 16 ≃ Fin 32 := (Equiv.prodComm _ _).trans (finProdFinEquiv (m := 16) (n := 2))

theorem tiles_val (c : Fin 2) (i : Fin 16) : (tiles (c, i)).val = 2 * i.val + c.val := by
  show c.val + 2 * i.val = _
  omega

theorem rowsOf_disjoint : ∀ a ∈ (Finset.univ : Finset (Fin 32)), ∀ b ∈ (Finset.univ : Finset (Fin 32)), a ≠ b → Disjoint (rowsOf a.val) (rowsOf b.val) := by
  intro a _ b _ h
  refine Finset.disjoint_left.mpr fun x hx hy => h (Fin.ext ?_)
  unfold rowsOf at hx hy
  rw [Finset.mem_filter] at hx hy
  exact hx.2.symm.trans hy.2

theorem rowsOf_cover : (Finset.univ : Finset (Fin 32)).biUnion (fun a => rowsOf a.val) = Finset.univ := by
  refine Finset.eq_univ_of_forall fun x => Finset.mem_biUnion.mpr ?_
  have hx : (x 0).val < 4096 := (x 0).isLt
  refine ⟨⟨(x 0).val / 128, by omega⟩, Finset.mem_univ _, ?_⟩
  unfold rowsOf
  exact Finset.mem_filter.mpr ⟨Finset.mem_univ _, rfl⟩

theorem rows_split (d : Dev nD) (f : OutS.Idx → F .f32) :
    (oLoc d ↦{fullShare} f : sProp 𝕄) = bigSep Finset.univ fun a : Fin 32 => oLoc d ↦[rowsOf a.val]{fullShare} f := by
  rw [← pointsTo_biUnion Finset.univ (ℓ := oLoc d) (fun a : Fin 32 => rowsOf a.val) rowsOf_disjoint, rowsOf_cover]; try rfl

theorem shareOut (d : Dev nD) (a : ListS.Idx → BitVec 32) (b : TableS.Idx → F .f32) (f : OutS.Idx → F .f32) :
    (iprop((vLoc d ↦{fullShare} a) ∗ (xLoc d ↦{fullShare} b) ∗ (oLoc d ↦{fullShare} f)) : sProp 𝕄)
      = bigSep Finset.univ fun c : Fin 2 => bigSep Finset.univ fun i : Fin 16 => iprop((vLoc d ↦{part 5 fullShare (2 * i.val + c.val)} a)
          ∗ (xLoc d ↦{part 5 fullShare (2 * i.val + c.val)} b) ∗ (oLoc d ↦[rowsOf (2 * i.val + c.val)]{fullShare} f)) := by
  have h : (bigSep Finset.univ fun w : Fin 32 => iprop((vLoc d ↦{part 5 fullShare w.val} a)
          ∗ (xLoc d ↦{part 5 fullShare w.val} b) ∗ (oLoc d ↦[rowsOf w.val]{fullShare} f)) : sProp 𝕄)
      = iprop((vLoc d ↦{fullShare} a) ∗ (xLoc d ↦{fullShare} b) ∗ (oLoc d ↦{fullShare} f)) := by
    rw [bigSep_sep', bigSep_sep', rows_split d f, pointsTo_parts (ℓ := vLoc d) Finset.univ a 5 fullShare, pointsTo_parts (ℓ := xLoc d) Finset.univ b 5 fullShare]
    rfl
  rw [← h, bigSep_univ_equiv tiles, bigSep_univ_prod]
  exact bigSep_congr fun c _ => bigSep_congr fun i _ => by rw [tiles_val]

/-! ## The SparseCore call inside @main -/

/-- The three buffers of the SparseCore call. -/
def scBufs : Finset (DevRef τ sig) := {Proc.devRef .tc main_v0, Proc.devRef .tc main_arg1, Proc.devRef .tc main_v1}

theorem scBufs_sub : scBufs ⊆ Pipeline.ucRefs τ sig := by decide +kernel

theorem held_scBufs (d : Dev nD) (V : Valuation τ sig (Elt F)) :
    (StableHlo.held (d.tc : Thread nD τ) scBufs V : sProp 𝕄)
      = iprop((vLoc d ↦{fullShare} V (Proc.devRef .tc main_v0)) ∗ (xLoc d ↦{fullShare} V (Proc.devRef .tc main_arg1))
          ∗ (oLoc d ↦{fullShare} V (Proc.devRef .tc main_v1))) := by
  unfold StableHlo.held scBufs
  rw [SparseCore.bigSep_insert' (by decide), SparseCore.bigSep_insert' (by decide), bigSep_singleton]
  try rfl

theorem st0_eq (d : Dev nD) : (bigSep Finset.univ fun c : Fin ((K (F := F)).nCore 0) => (P m).st 0 d c)
    = iprop((vLoc d ↦{fullShare} iv m d) ∗ (xLoc d ↦{fullShare} tb m d) ∗ (oLoc d ↦{fullShare} fo m d)) :=
  (shareOut d (iv m d) (tb m d) (fo m d)).symm

theorem dn0_eq (d : Dev nD) : (bigSep Finset.univ fun c : Fin ((K (F := F)).nCore 0) => (P m).dn 0 d c)
    = iprop((vLoc d ↦{fullShare} iv m d) ∗ (xLoc d ↦{fullShare} tb m d) ∗ (oLoc d ↦{fullShare} agg scale (iv m d) (tb m d))) :=
  (shareOut d (iv m d) (tb m d) (agg scale (iv m d) (tb m d))).symm

/-- Before the call: the call's operands, and the rest. -/
theorem held_before (d : Dev nD) : (StableHlo.held (d.tc : Thread nD τ) (Pipeline.ucRefs τ sig) (W1 m d) : sProp 𝕄)
    = iprop((bigSep Finset.univ fun c : Fin ((K (F := F)).nCore 0) => (P m).st 0 d c)
        ∗ StableHlo.held (d.tc : Thread nD τ) (Pipeline.ucRefs τ sig \ scBufs) (W1 m d)) := by
  rw [StableHlo.held_sub_split (d.tc : Thread nD τ) scBufs_sub, held_scBufs, st0_eq]
  rfl

/-- After it. -/
theorem held_after (d : Dev nD) : (StableHlo.held (d.tc : Thread nD τ) (Pipeline.ucRefs τ sig) (W2 m d) : sProp 𝕄)
    = iprop((bigSep Finset.univ fun c : Fin ((K (F := F)).nCore 0) => (P m).dn 0 d c)
        ∗ StableHlo.held (d.tc : Thread nD τ) (Pipeline.ucRefs τ sig \ scBufs) (W1 m d)) := by
  have h0 : W2 m d (Proc.devRef .tc main_v0) = iv m d := Function.update_of_ne (by decide) _ _
  have h1 : W2 m d (Proc.devRef .tc main_arg1) = tb m d := Function.update_of_ne (by decide) _ _
  have h2 : W2 m d (Proc.devRef .tc main_v1) = agg scale (iv m d) (tb m d) := Function.update_self _ _ _
  rw [StableHlo.held_sub_split (d.tc : Thread nD τ) scBufs_sub, held_scBufs, dn0_eq, h0, h1, h2]
  have h : (StableHlo.held (d.tc : Thread nD τ) (Pipeline.ucRefs τ sig \ scBufs) (W2 m d) : sProp 𝕄)
      = StableHlo.held (d.tc : Thread nD τ) (Pipeline.ucRefs τ sig \ scBufs) (W1 m d) := by
    refine StableHlo.held_congr (d.tc : Thread nD τ) fun b hb => Function.update_of_ne (fun h => ?_) _ _
    subst h
    exact (Finset.mem_sdiff.mp hb).2 (by decide)
  rw [h]

/-! ## The ghost state at the launch -/

theorem injP : Function.Injective (Pipeline.cellOf (nD := nD) (τ := τ) (Pipeline.pin (pcfgs (F := F)) adm)) := (kit (F := F)).cellOf_inj adm

def u₀ : UU := (initOf (K (F := F)).hsCells (K (F := F)).hsToks,
  (initOf (Pipeline.cells (Pipeline.pin (pcfgs (F := F)) adm) injP) (Pipeline.launchToks (Pipeline.pin (pcfgs (F := F)) adm) injP), 1))

def G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

theorem x_emp : (bigSep Finset.univ fun thr : Thread nD τ => bigSep Finset.univ fun q : Fin 1 => (P (F := F) m).x q thr) = (iprop(emp) : sProp 𝕄) := by
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  exact bigSep_emp_const _

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  rw [x_emp]
  unfold u₀ G
  rw [bigSep_sep']
  iintro Hu
  ihave H := (ownU_pair (initOf (K (F := F)).hsCells (K (F := F)).hsToks) (initOf (Pipeline.cells (Pipeline.pin (pcfgs (F := F)) adm) injP) (Pipeline.launchToks (Pipeline.pin (pcfgs (F := F)) adm) injP), (1 : Counters))) $$ Hu
  icases H with ⟨HH, HR⟩
  ihave H := (own_pair_emb (embR : Emb (UP × Counters) 𝕄) (initOf (Pipeline.cells (Pipeline.pin (pcfgs (F := F)) adm) injP) (Pipeline.launchToks (Pipeline.pin (pcfgs (F := F)) adm) injP)) (1 : Counters)) $$ HR
  icases H with ⟨HP, -⟩
  ihave HP := (Entails.of_eq (show (BI.own (((Emb.inl : Emb UP (UP × Counters)).trans embR)
      (initOf (Pipeline.cells (Pipeline.pin (pcfgs (F := F)) adm) injP) (Pipeline.launchToks (Pipeline.pin (pcfgs (F := F)) adm) injP))) : sProp 𝕄)
    = BI.own (EP (F := F) (initOf (Pipeline.cells (Pipeline.pin (pcfgs (F := F)) adm) injP) (Pipeline.launchToks (Pipeline.pin (pcfgs (F := F)) adm) injP))) from rfl)) $$ HP
  imod (Pipeline.fund_ghost (Pipeline.pin (pcfgs (F := F)) adm) (EP (F := F)) injP) $$ HP with ⟨HG, HT⟩
  imodintro
  isplitl [HH]; · iexact HH
  isplitl [HG HT]
  · isplitl [HG]
    · rw [show (bigSep Finset.univ fun d : Dev nD => Pipeline.cellsGhost (Pipeline.pin (pcfgs (F := F)) adm) (EP (F := F)) 0 d : sProp 𝕄)
        = bigSep Finset.univ fun d : Dev nD => bigSep Finset.univ fun p => Pipeline.cellsGhost (Pipeline.pin (pcfgs (F := F)) adm) (EP (F := F)) p d from
        bigSep_congr fun d _ => (bigSep_univ_of_subsingleton (Φ := fun p => Pipeline.cellsGhost (Pipeline.pin (pcfgs (F := F)) adm) (EP (F := F)) p d) (0 : Fin 1)).symm]
      iexact HG
    · rw [show (bigSep Finset.univ fun d : Dev nD => Pipeline.toksInit (Pipeline.pin (pcfgs (F := F)) adm) (EP (F := F)) 0 d : sProp 𝕄)
        = bigSep Finset.univ fun d : Dev nD => bigSep Finset.univ fun p => Pipeline.toksInit (Pipeline.pin (pcfgs (F := F)) adm) (EP (F := F)) p d from
        bigSep_congr fun d _ => (bigSep_univ_of_subsingleton (Φ := fun p => Pipeline.toksInit (Pipeline.pin (pcfgs (F := F)) adm) (EP (F := F)) p d) (0 : Fin 1)).symm]
      iexact HT
  iempintro

/-! ## @main on the TensorCore -/

def FIN (d : Dev nD) : sProp 𝕄 := StableHlo.held (d.tc : Thread nD τ) (Pipeline.ucRefs τ sig) (W4 m d)

theorem main_eq (d : Dev nD) : main (F := F) d = (StableHlo.seq ops0 >>= fun _ => (K (F := F)).run d 0 >>= fun _ => StableHlo.seq ops1 >>= fun _ =>
    SparseCore.liftProg (.op (.customCall (Pipeline.entry 0) ()) .ret)) := by
  rfl

/-- The TensorCore call, at the level of the whole program. -/
theorem call_wp (d : Dev nD) (Φ : PUnit → sProp 𝕄) [∀ e, Nonempty (Elt F e)] :
    iprop(((boundary (d.tc : Thread nD τ) ∗ StableHlo.held (d.tc : Thread nD τ) (Pipeline.ucRefs τ sig) (W4 m d) ∗ idle d) -∗ Φ ⟨⟩)
      ∗ boundary (d.tc : Thread nD τ) ∗ StableHlo.held (d.tc : Thread nD τ) (Pipeline.ucRefs τ sig) (W3 m d) ∗ idle d ∗ levAts (K (F := F)).L (K (F := F)).lev ∗ G d)
      ⊢ wp frame (wpE ((K (F := F)).defs (D (F := F))) 𝒱 (SparseCore.T d) none) Set.univ
          (SparseCore.liftProg (.op (.customCall (Pipeline.entry 0) ()) .ret)) Φ := by
  refine BIBase.Entails.trans ?_ ((K (F := F)).wp_liftProg (D (F := F)) 𝒱 (SparseCore.T d) Set.univ none _ Φ)
  refine BIBase.Entails.trans ?_ ((region (W3 m)).wp pcfgs adm (dats (W3 m)) none injP (EP (F := F)) defs₀ Variants.none (K (F := F)).L (K (F := F)).lev d none (fun _ h => nomatch h) _ Φ)
  unfold G
  rw [show (region (W3 m)).pre d = iprop(StableHlo.held (d.tc : Thread nD τ) (Pipeline.ucRefs τ sig) (W3 m d) ∗ idle d) from rfl,
    show (region (W3 m)).post d = iprop(StableHlo.held (d.tc : Thread nD τ) (Pipeline.ucRefs τ sig) (W4 m d) ∗ idle d) from rfl]
  iintro ⟨Hk, Hb, Hh, Hi, Hl, Hg, Ht⟩
  isplitl [Hk]
  · iintro ⟨Hb, Hp⟩
    rw [wp_ret]
    imodintro
    iapply Hk
    isplitl [Hb]; · iexact Hb
    iexact Hp
  isplitl [Hb]; · iexact Hb
  isplitl [Hh Hi]
  · isplitl [Hh]; · iexact Hh
    iexact Hi
  isplitl [Hl]; · iexact Hl
  isplitl [Hg]; · iexact Hg
  iexact Ht

theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  rw [main_eq]
  unfold SparseCore.Cfg.tcRes SparseCore.Cfg.tcEnd
  rw [show (unscopedBufs d (fun b => m ((SparseCore.T d).loc b)) : sProp 𝕄) = StableHlo.held (d.tc : Thread nD τ) (Pipeline.ucRefs τ sig) (StableHlo.launchContents m d)
    from Pipeline.unscopedBufs_held (Ix := HIx 1) (Name := ℕ) (U := UU) (Lvl := ℕ) d (StableHlo.launchContents m d)]
  iintro ⟨#Hctx, Hst, ⟨Hb, Hh, Hts, -⟩, HG⟩
  ihave #Hlev := (SparseCore.Cfg.ctx_levAts κ) $$ Hctx
  iapply (StableHlo.wp_seq 𝒱 none Set.univ d (Pipeline.ucRefs τ sig) _ ops0 ops0_bufs ops0_fresh (StableHlo.launchContents m d)) $$ [Hb Hh]
  · isplitl [Hb]; · iexact Hb
    iexact Hh
  iintro ⟨Hb, Hh⟩
  rw [wp_bind]
  ihave H := (Entails.of_eq (show (StableHlo.held (d.tc : Thread nD τ) (Pipeline.ucRefs τ sig) (StableHlo.after ops0 (StableHlo.launchContents m d)) : sProp 𝕄) = _
    from held_before m d)) $$ Hh
  icases H with ⟨Hs, Hrest⟩
  iapply ((K (F := F)).wp_run (D (F := F)) 𝒱 (EH := EH) (P := P m) κ d 0) $$ [Hst Hs Hrest Hb Hts HG]
  isplitr; · iexact Hctx
  isplitl [Hst]; · iexact Hst
  isplitl [Hs]; · iexact Hs
  iintro ⟨Hst, Hdn⟩
  ihave Hh := (Entails.of_eq (held_after m d).symm) $$ [Hdn Hrest]
  · isplitl [Hdn]; · iexact Hdn
    iexact Hrest
  iapply (StableHlo.wp_seq 𝒱 none Set.univ d (Pipeline.ucRefs τ sig) _ ops1 ops1_bufs ops1_fresh (W2 m d)) $$ [Hb Hh]
  · isplitl [Hb]; · iexact Hb
    iexact Hh
  iintro ⟨Hb, Hh⟩
  ihave Hh := (Entails.of_eq (show (StableHlo.held (d.tc : Thread nD τ) (Pipeline.ucRefs τ sig) (StableHlo.after ops1 (W2 m d)) : sProp 𝕄)
    = StableHlo.held (d.tc : Thread nD τ) (Pipeline.ucRefs τ sig) (W3 m d) from rfl)) $$ Hh
  unfold SparseCore.Cfg.tcSt
  rw [show (K (F := F)).Otc d 1 = 0 from (K (F := F)).Otc_end d (le_refl 1),
    show (K (F := F)).Otc d ((0 : Fin 1).val + 1) = 0 from (K (F := F)).Otc_end d (le_refl 1)]
  icases Hst with ⟨⟨%Wt, %hWt, HO⟩, Hrest⟩
  iapply (call_wp m d _) $$ [Hb Hh HO HG Hrest Hts]
  isplitl [Hrest Hts]
  · iintro ⟨Hb, Hh, Hi⟩
    unfold idle
    icases Hi with ⟨%Wt', %hWt', HO⟩
    isplitl [HO Hrest]
    · isplitl [HO]
      · iexists Wt'; isplitr
        · ipureintro; exact hWt'
        · iexact HO
      iexact Hrest
    isplitl [Hh]; · unfold FIN; iexact Hh
    isplitl [Hb]; · iexact Hb
    iexact Hts
  isplitl [Hb]; · iexact Hb
  isplitl [Hh]; · iexact Hh
  isplitl [HO]
  · unfold idle
    iexists Wt; isplitr
    · ipureintro; exact hWt
    · iexact HO
  isplitr; · iexact Hlev
  iexact HG

/-! ## The final memory and the run -/

def fq (d : Dev nD) (s' : Phys nD τ sig (Elt F)) : Prop := ∀ b : DevRef τ sig, b ∈ Pipeline.ucRefs τ sig → s'.mem.mem (d, b) = W4 m d b

set_option maxRecDepth 16384 in
theorem hfin_one (d : Dev nD) (s' : Phys nD τ sig (Elt F)) (b : DevRef τ sig) (hb : b ∈ Pipeline.ucRefs τ sig) :
    iprop(FIN m d ∗ SI s') ⊢ (⌜s'.mem.mem (d, b) = W4 m d b⌝ : sProp 𝕄) := by
  unfold FIN StableHlo.held
  rw [SparseCore.bigSep_erase' hb]
  iintro ⟨⟨Hb, -⟩, HSI⟩
  ihave H := (SI_pointsTo_agree (st := s') (ℓ := ((d, b) : Loc nD τ sig)) (I := Finset.univ) (q := fullShare) (f := W4 m d b)) $$ [HSI Hb]
  · isplitl [HSI] <;> iassumption
  icases H with %h
  ipureintro; exact funext fun i => h i (Finset.mem_univ i)

theorem hfin (d : Dev nD) (s' : Phys nD τ sig (Elt F)) : iprop(FIN m d ∗ SI s') ⊢ (⌜fq m d s'⌝ : sProp 𝕄) := by
  by_cases h : fq m d s'
  · iintro -
    ipureintro; exact h
  · unfold fq at h
    push Not at h
    obtain ⟨b, hb, hne⟩ := h
    refine (hfin_one m d s' b hb).trans ?_
    iintro %he
    exact absurd he hne

/-- What the program's run leaves: every buffer but the scratch as `W4` says, and every semaphore at zero. -/
def QC : PUnit × MemSt nD τ sig (Elt F) → Prop := fun r =>
  (∀ (d : Dev nD) (b : DevRef τ sig), b ∈ Pipeline.ucRefs τ sig → r.2.mem (d, b) = W4 m d b) ∧ r.2.sem = fun _ => 0

theorem run_main [∀ e, Nonempty (Elt F e)] (hiv : ∀ d, InRange (iv m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hiv)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Cert.Proof.KernelIdeal

end
-- ==== Proof.KernelIdeal.Final.lean ====
/-
  What the buffers hold at the end: the arguments unchanged, and the list the SparseCore call reads.
-/
module

public import proofs.«01_k».proof.Proof.KernelIdeal.Launch
public import proofs.«01_k».proof.Proof.Precondition
public import Idealize.ShloMosaic.Lib.StableHlo.RunRead
public import Idealize.ShloMosaic.Lib.Pipeline.RegionArraysS

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather

variable {F : FTy → Type} [FloatOps F] [Named F]

variable (m : (ℓ : Loc nD τ sig) → Buf (Elt F) ℓ) (ρ : Dev nD → PrngReg)

/-- A buffer none of the program's operations writes keeps its contents to the TensorCore call, -/
theorem W3_kept (d : Dev nD) (r : Ref sig .tc) (h0 : r ∉ [main_v0]) (h1 : r ∉ [main_v2, main_v3, main_v4, main_v5]) (h : r ≠ main_v1) :
    W3 m d (Proc.devRef .tc r) = m (d, Proc.devRef .tc r) := by
  unfold W3
  rw [StableHlo.after_unwritten [main_v2, main_v3, main_v4, main_v5] (ops := ops1) rfl h1]
  unfold W2
  rw [Function.update_of_ne (fun e => h (Proc.devRef_injective _ e))]
  unfold W1
  rw [StableHlo.after_unwritten [main_v0] (ops := ops0) rfl h0]

/-- and, unless the call writes it, to the end. -/
theorem W4_kept (d : Dev nD) (r : Ref sig .tc) (h0 : r ∉ [main_v0]) (h1 : r ∉ [main_v2, main_v3, main_v4, main_v5]) (h : r ≠ main_v1)
    (hw : ∀ w, Pipeline.arrRef spec1 w = r → (cfg1.win w).isOut = false) :
    W4 m d (Proc.devRef .tc r) = m (d, Proc.devRef .tc r) :=
  (Pipeline.afterRegion_keeps (dats (W3 m) 0 d) (W3 m d) winFacts1.arr_inj (fun w => A_eq (W3 m) d w) r hw).trans (W3_kept m d r h0 h1 h)

/-- The SparseCore call's list is the index argument, row after row. -/
theorem iv_eq (d : Dev nD) : iv m d = shapeCast S819200 (m (d, Proc.devRef .tc main_arg2) : S4096x200.Idx → BitVec 32) shapeCasts_S4096x200_S819200 := by
  unfold iv W1 ops0
  after_results_simp
  rfl

theorem iv_inRange (d : Dev nD) (h : ∀ x : S4096x200.Idx, ((m (d, Proc.devRef .tc main_arg2) : S4096x200.Idx → BitVec 32) x).toNat < 100000) : InRange (iv m d) := by
  intro p
  rw [iv_eq]
  exact h _

/-- The frame, for any float values: the arguments end as they began, and every semaphore at zero. -/
theorem run_frame [∀ e, Nonempty (Elt F e)] (h : ∀ (d : Dev nD) (x : S4096x200.Idx), ((m (d, Proc.devRef .tc main_arg2) : S4096x200.Idx → BitVec 32) x).toNat < 100000) :
    θ_run (Cert.KernelIdeal.defs (F := F)) (Cert.KernelIdeal.threads (F := F)) ⟨m, fun _ => 0, ρ⟩ (fun r => (∀ c : Dev nD,
      r.2.mem ((c.tc : Thread nD τ).loc main_v6) = W4 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) := by
  refine (θ_run (Cert.KernelIdeal.defs (F := F)) _ _).mono (fun r hr => ⟨fun c => ?_, hr.2⟩) (run_main m ρ fun d => iv_inRange m d (h d))
  have k (b : Ref sig .tc) (hb : (Proc.devRef .tc b : DevRef τ sig) ∈ Pipeline.ucRefs τ sig) := hr.1 c (Proc.devRef .tc b) hb
  exact ⟨k main_v6 (by decide +kernel),
    (k main_arg0 (by decide +kernel)).trans (W4_kept m c main_arg0 (by decide) (by decide) (by decide) (by decide)),
    (k main_arg1 (by decide +kernel)).trans (W4_kept m c main_arg1 (by decide) (by decide) (by decide) (by decide)),
    (k main_arg2 (by decide +kernel)).trans (W4_kept m c main_arg2 (by decide) (by decide) (by decide) (by decide)),
    (k main_arg3 (by decide +kernel)).trans (W4_kept m c main_arg3 (by decide) (by decide) (by decide) (by decide)),
    (k main_arg4 (by decide +kernel)).trans (W4_kept m c main_arg4 (by decide) (by decide) (by decide) (by decide)),
    (k main_arg5 (by decide +kernel)).trans (W4_kept m c main_arg5 (by decide) (by decide) (by decide) (by decide)),
    (k main_arg6 (by decide +kernel)).trans (W4_kept m c main_arg6 (by decide) (by decide) (by decide) (by decide))⟩

end Cert.Proof.KernelIdeal

end
-- ==== Proof.Dense.lean ====
/-
  What both programs compute, over the extended reals: the mean of the gathered rows, and the two-layer network of the
  node's own row beside that mean.
-/
module

public import proofs.«01_k».proof.Proof.Values
public import Idealize.ShloMosaic.PureOps.Ideal.Laws
public import Idealize.ShloMosaic.Lib.IdealHost

@[expose] public section

noncomputable section

namespace Cert.Proof.Gather

open Idealize.ShloMosaic Idealize.ShloMosaic.ValueIdx

abbrev IdxS : Shape := ⟨2, ![4096, 200]⟩
abbrev WS1 : Shape := ⟨2, ![256, 256]⟩
abbrev WS2 : Shape := ⟨2, ![256, 128]⟩

/-- The sum of the 200 table rows node `r` names, times a 200th. -/
def meanAt (x2 : IdxS.Idx → BitVec 32) (tb : TableS.Idx → EReal) (r : Fin 4096) (c : Fin 128) : EReal :=
  (∑ k : Fin 200, tb (ix2 (rowOf (x2 (ix2 r k))) c)) * ((200⁻¹ : ℝ) : EReal)

/-- The hidden layer: the two halves of the first weights against the node's row and the mean, the bias, the positive part. -/
def hidAt (a g : OutS.Idx → EReal) (w1 : WS1.Idx → EReal) (b1 : (⟨1, ![256]⟩ : Shape).Idx → EReal) (r : Fin 4096) (k : Fin 256) : EReal :=
  max (((∑ j : Fin 128, a (ix2 r j) * w1 (ix2 (Fin.castAdd 128 j) k)) + ∑ j : Fin 128, g (ix2 r j) * w1 (ix2 (Fin.natAdd 128 j) k)) + b1 (ix1 k)) 0

/-- The second layer. -/
def mlpAt (a g : OutS.Idx → EReal) (w1 : WS1.Idx → EReal) (b1 : (⟨1, ![256]⟩ : Shape).Idx → EReal) (w2 : WS2.Idx → EReal) (b2 : (⟨1, ![128]⟩ : Shape).Idx → EReal)
    (r : Fin 4096) (c : Fin 128) : EReal :=
  (∑ k : Fin 256, hidAt a g w1 b1 r k * w2 (ix2 k c)) + b2 (ix1 c)

/-- The sum the kernel adds up one row after another. -/
theorem psum_eq_sum (iv : ListS.Idx → BitVec 32) (tb : TableS.Idx → EReal) (b : ℕ) (c : Fin 128) (n : ℕ) :
    psum (F := Ideal) iv tb b c n = ∑ k ∈ Finset.range n, gat (F := Ideal) iv tb (b + k) c := by
  induction n with
  | zero => exact Ideal.ofBits_zero_f32
  | succ n ih => rw [Finset.sum_range_succ, ← ih]; rfl

/-- What the SparseCore call leaves is the mean, when its list is the index array laid out row after row. -/
theorem agg_eq_mean (iv : ListS.Idx → BitVec 32) (x2 : IdxS.Idx → BitVec 32) (tb : TableS.Idx → EReal)
    (h : ∀ (r : Fin 4096) (k : Fin 200), iv (place (200 * r.val + k.val)) = x2 (ix2 r k)) (r : Fin 4096) (c : Fin 128) :
    agg (F := Ideal) ((200⁻¹ : ℝ) : EReal) iv tb (ix2 r c) = meanAt x2 tb r c := by
  show psum (F := Ideal) iv tb (200 * r.val) c 200 * _ = _
  rw [psum_eq_sum, Finset.sum_range]
  unfold meanAt gat
  simp only [h]

/-- A quotient by the number of gathered rows, counted by adding that many ones. -/
theorem div_count (s : EReal) : Ideal.div s (max (0 + ∑ _k : Fin 200, (1 : EReal)) 1) = s * ((200⁻¹ : ℝ) : EReal) := by
  have e : (max (0 + ∑ _k : Fin 200, (1 : EReal)) 1) = ((200 : ℝ) : EReal) := by
    rw [zero_add, Finset.sum_const, Finset.card_univ, Fintype.card_fin, nsmul_one, max_eq_left]
    · norm_cast
    · norm_cast
  rw [e]
  unfold Ideal.div
  rw [if_neg (by norm_cast), EReal.coe_inv]

end Cert.Proof.Gather

end
-- ==== Proof.KernelIdeal.Payload.lean ====
/-
  The TensorCore call's output block, over the extended reals, at an index.
-/
module

public import proofs.«01_k».proof.Proof.Gen.KernelIdeal.Skeleton
public import proofs.«01_k».proof.Proof.Dense
public import Idealize.ShloMosaic.Lib.KernelVsHost
public import Idealize.ShloMosaic.Lib.StackMember
public import Idealize.ShloMosaic.Lib.Pipeline.Value

@[expose] public section

noncomputable section

namespace Cert.Proof.KernelIdeal

open Cert.KernelIdeal Cert.KernelIdeal.Gen Cert.Proof.Gather
open Idealize.ShloMosaic
open Idealize.ShloMosaic.ValueIdx

theorem pay_apply (x0 x1 : FVec Ideal S1024x128 .f32) (wa wb : FVec Ideal S128x256 .f32) (b1 : FVec Ideal S1x256 .f32) (w2 : FVec Ideal S256x128 .f32) (b2 : FVec Ideal S1x128 .f32)
    (r : Fin 1024) (c : Fin 128) : k1_pay1 (F := Ideal) x0 wa x1 wb b1 w2 b2 (ix2 r c)
      = (∑ k : Fin 256, max (((∑ j : Fin 128, x0 (ix2 r j) * wa (ix2 j k)) + ∑ j : Fin 128, x1 (ix2 r j) * wb (ix2 j k)) + b1 (ix2 (0 : Fin 1) k)) 0 * w2 (ix2 k c)) + b2 (ix2 (0 : Fin 1) c) := by
  have hd (a : FVec Ideal S1024x128 .f32) (w : FVec Ideal S128x256 .f32) (k : Fin 256) :
      matmul dot_S1024x128_S128x256_S1024x256_1_0_0_1_n_n none a w (constant S1024x256 .f32 0x00000000#32) (ix2 r k) = ∑ j : Fin 128, a (ix2 r j) * w (ix2 j k) := by
    rw [matmul_zero_eq_dotGeneral]
    exact StackMember.dotGeneral_plain_apply none a w r k
  have hb (k : Fin 256) : broadcastTo S1024x256 b1 broadcasts_S1x256_S1024x256 (ix2 r k) = b1 (ix2 (0 : Fin 1) k) :=
    broadcastTo_apply b1 _ _ _ (by intro a; match a with | ⟨0, _⟩ => rfl | ⟨1, _⟩ => rfl)
  unfold k1_pay1
  simp only [shapeCast_self, matmul_zero_eq_dotGeneral dot_S1024x256_S256x128_S1024x128_1_0_0_1_n_n]
  show Host.dotGeneral (DotDims.plain 1024 256 128) none _ w2 (ix2 r c) + broadcastTo S1024x128 b2 broadcasts_S1x128_S1024x128 (ix2 r c) = _
  rw [StackMember.dotGeneral_plain_apply, broadcastTo_apply b2 _ _ (ix2 (0 : Fin 1) c) (by intro a; match a with | ⟨0, _⟩ => rfl | ⟨1, _⟩ => rfl)]
  refine congrArg (· + _) (Finset.sum_congr rfl fun k _ => congrArg (· * _) ?_)
  show max ((matmul dot_S1024x128_S128x256_S1024x256_1_0_0_1_n_n none x0 wa (constant S1024x256 .f32 0x00000000#32) (ix2 r k) + matmul dot_S1024x128_S128x256_S1024x256_1_0_0_1_n_n none x1 wb (constant S1024x256 .f32 0x00000000#32) (ix2 r k)) + broadcastTo S1024x256 b1 broadcasts_S1x256_S1024x256 (ix2 r k)) (Ideal.ofBits .f32 0x00000000#32) = _
  rw [hd, hd, hb, Ideal.ofBits_zero_f32]

end Cert.Proof.KernelIdeal

end
-- ==== Proof.KernelIdeal.Result.lean ====
/-
  The idealized kernel's result array, over the extended reals: the network of the node's row beside what the SparseCore
  call left for it.
-/
module

public import proofs.«01_k».proof.Proof.KernelIdeal.Final
public import proofs.«01_k».proof.Proof.KernelIdeal.Payload

@[expose] public section

noncomputable section

namespace Cert.Proof.KernelIdeal

open Cert.KernelIdeal Cert.KernelIdeal.Gen Cert.Proof.Gather

open Idealize.ShloMosaic Idealize.ShloMosaic.TcCoe Idealize.ShloMosaic.ValueIdx
open Idealize.ShloMosaic.Pipeline (Dat)

theorem idx_facts : ∀ t : Fin cfg1.N, win1_0.index t (0 : Fin 2) = t.val ∧ win1_0.index t (1 : Fin 2) = 0
    ∧ win1_1.index t (0 : Fin 2) = t.val ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (0 : Fin 2) = 0 ∧ win1_4.index t (1 : Fin 2) = 0
    ∧ win1_5.index t (0 : Fin 2) = 0 ∧ win1_5.index t (1 : Fin 2) = 0 ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `r` of point `t`'s block of rows. -/
def rowAt (t : Fin cfg1.N) (r : Fin 1024) : Fin 4096 := ⟨t.val * 1024 + r.val, by
  have h : t.val < 4 := t.isLt
  have := r.isLt
  omega⟩

/-! ## The blocks, in the arrays -/

variable (W : Dev nD → Valuation τ sig (Elt Ideal)) (d : Dev nD) (t : Fin cfg1.N)

theorem blk0 (r : Fin 1024) (j : Fin 128) : iblk W d 0 t (ix2 r j) = (vin W d main_arg0 : S4096x128.Idx → EReal) (ix2 (rowAt t r) j) := by
  obtain ⟨h0, h1, -⟩ := idx_facts t
  show vin W d main_arg0 (((cfg1.win 0).blk t).view.emb (ix2 r j)) = _
  refine congrArg (vin W d main_arg0) (funext fun a => Fin.ext ?_)
  match a with
  | ⟨0, _⟩ => show win1_0.index t (0 : Fin 2) * 1024 + 1 * r.val = t.val * 1024 + r.val; rw [h0]; omega
  | ⟨1, _⟩ => show win1_0.index t (1 : Fin 2) * 128 + 1 * j.val = j.val; rw [h1]; omega

theorem blk1 (r : Fin 1024) (j : Fin 128) : iblk W d 1 t (ix2 r j) = (vin W d main_v1 : S4096x128.Idx → EReal) (ix2 (rowAt t r) j) := by
  obtain ⟨-, -, h0, h1, -⟩ := idx_facts t
  show vin W d main_v1 (((cfg1.win 1).blk t).view.emb (ix2 r j)) = _
  refine congrArg (vin W d main_v1) (funext fun a => Fin.ext ?_)
  match a with
  | ⟨0, _⟩ => show win1_1.index t (0 : Fin 2) * 1024 + 1 * r.val = t.val * 1024 + r.val; rw [h0]; omega
  | ⟨1, _⟩ => show win1_1.index t (1 : Fin 2) * 128 + 1 * j.val = j.val; rw [h1]; omega

theorem blk2 (y : S128x256.Idx) : iblk W d 2 t y = (vin W d main_v2 : S128x256.Idx → EReal) y := by
  obtain ⟨-, -, -, -, h0, h1, -⟩ := idx_facts t
  show vin W d main_v2 (((cfg1.win 2).blk t).view.emb y) = _
  refine congrArg (vin W d main_v2) (funext fun a => Fin.ext ?_)
  match a with
  | ⟨0, _⟩ => show win1_2.index t (0 : Fin 2) * 128 + 1 * (y 0).val = (y 0).val; rw [h0]; omega
  | ⟨1, _⟩ => show win1_2.index t (1 : Fin 2) * 256 + 1 * (y 1).val = (y 1).val; rw [h1]; omega

theorem blk3 (y : S128x256.Idx) : iblk W d 3 t y = (vin W d main_v3 : S128x256.Idx → EReal) y := by
  obtain ⟨-, -, -, -, -, -, h0, h1, -⟩ := idx_facts t
  show vin W d main_v3 (((cfg1.win 3).blk t).view.emb y) = _
  refine congrArg (vin W d main_v3) (funext fun a => Fin.ext ?_)
  match a with
  | ⟨0, _⟩ => show win1_3.index t (0 : Fin 2) * 128 + 1 * (y 0).val = (y 0).val; rw [h0]; omega
  | ⟨1, _⟩ => show win1_3.index t (1 : Fin 2) * 256 + 1 * (y 1).val = (y 1).val; rw [h1]; omega

theorem blk4 (y : S1x256.Idx) : iblk W d 4 t y = (vin W d main_v4 : S1x256.Idx → EReal) y := by
  obtain ⟨-, -, -, -, -, -, -, -, h0, h1, -⟩ := idx_facts t
  show vin W d main_v4 (((cfg1.win 4).blk t).view.emb y) = _
  refine congrArg (vin W d main_v4) (funext fun a => Fin.ext ?_)
  match a with
  | ⟨0, _⟩ => show win1_4.index t (0 : Fin 2) * 1 + 1 * (y 0).val = (y 0).val; rw [h0]; omega
  | ⟨1, _⟩ => show win1_4.index t (1 : Fin 2) * 256 + 1 * (y 1).val = (y 1).val; rw [h1]; omega

theorem blk5 (y : S256x128.Idx) : iblk W d 5 t y = (vin W d main_arg5 : S256x128.Idx → EReal) y := by
  obtain ⟨-, -, -, -, -, -, -, -, -, -, h0, h1, -⟩ := idx_facts t
  show vin W d main_arg5 (((cfg1.win 5).blk t).view.emb y) = _
  refine congrArg (vin W d main_arg5) (funext fun a => Fin.ext ?_)
  match a with
  | ⟨0, _⟩ => show win1_5.index t (0 : Fin 2) * 256 + 1 * (y 0).val = (y 0).val; rw [h0]; omega
  | ⟨1, _⟩ => show win1_5.index t (1 : Fin 2) * 128 + 1 * (y 1).val = (y 1).val; rw [h1]; omega

theorem blk6 (y : S1x128.Idx) : iblk W d 6 t y = (vin W d main_v5 : S1x128.Idx → EReal) y := by
  obtain ⟨-, -, -, -, -, -, -, -, -, -, -, -, h0, h1, -⟩ := idx_facts t
  show vin W d main_v5 (((cfg1.win 6).blk t).view.emb y) = _
  refine congrArg (vin W d main_v5) (funext fun a => Fin.ext ?_)
  match a with
  | ⟨0, _⟩ => show win1_6.index t (0 : Fin 2) * 1 + 1 * (y 0).val = (y 0).val; rw [h0]; omega
  | ⟨1, _⟩ => show win1_6.index t (1 : Fin 2) * 128 + 1 * (y 1).val = (y 1).val; rw [h1]; omega

theorem emb7 (r : Fin 1024) (j : Fin 128) : ((cfg1.win 7).blk t).view.emb (ix2 r j) = ix2 (rowAt t r) j := by
  obtain ⟨-, -, -, -, -, -, -, -, -, -, -, -, -, -, h0, h1⟩ := idx_facts t
  refine funext fun a => Fin.ext ?_
  match a with
  | ⟨0, _⟩ => show win1_7.index t (0 : Fin 2) * 1024 + 1 * r.val = t.val * 1024 + r.val; rw [h0]; omega
  | ⟨1, _⟩ => show win1_7.index t (1 : Fin 2) * 128 + 1 * j.val = j.val; rw [h1]; omega

/-! ## The result array -/

/-- The network at a row and a column, with the first layer's weights and the biases as the TensorCore call holds them. -/
def netAt (x0 x1 : S4096x128.Idx → EReal) (wa wb : S128x256.Idx → EReal) (b1 : S1x256.Idx → EReal) (w2 : S256x128.Idx → EReal)
    (b2 : S1x128.Idx → EReal) (r : Fin 4096) (c : Fin 128) : EReal :=
  (∑ k : Fin 256, max (((∑ j : Fin 128, x0 (ix2 r j) * wa (ix2 j k)) + ∑ j : Fin 128, x1 (ix2 r j) * wb (ix2 j k)) + b1 (ix2 (0 : Fin 1) k)) 0
    * w2 (ix2 k c)) + b2 (ix2 (0 : Fin 1) c)

/-- The result at a node, from what the TensorCore call finds. -/
def resAt (r : Fin 4096) (c : Fin 128) : EReal :=
  netAt (vin W d main_arg0) (vin W d main_v1) (vin W d main_v2) (vin W d main_v3) (vin W d main_v4) (vin W d main_arg5) (vin W d main_v5) r c

theorem hz : (![0, 0] : Fin 2 → ℕ) = fun _ => 0 := funext fun a => by fin_cases a <;> rfl

/-- The body's block at a point is the result on the point's rows. -/
theorem out_eq (r : Fin 1024) (c : Fin 128) :
    out7 (iblk W d 0 t) (iblk W d 1 t) (iblk W d 2 t) (iblk W d 3 t) (iblk W d 4 t) (iblk W d 5 t) (iblk W d 6 t) (ix2 r c) = resAt W d (rowAt t r) c := by
  unfold out7
  rw [View.canon_unit_zero (S := S1024x128) hz, View.ld_unit_zero (S := S1024x128) hz, View.ld_unit_zero (S := S1024x128) hz, View.ld_unit_zero (S := S128x256) hz,
    View.ld_unit_zero (S := S128x256) hz, View.ld_unit_zero (S := S1x256) hz, View.ld_unit_zero (S := S256x128) hz, View.ld_unit_zero (S := S1x128) hz, pay_apply]
  simp only [blk0, blk1, blk2, blk3, blk4, blk5, blk6]
  rfl

theorem flushed7 : (dats W 0 d).flushed 7 t = (cfg1.win 7).cut (grid1.coords t) (out7 (iblk W d 0 t) (iblk W d 1 t) (iblk W d 2 t) (iblk W d 3 t) (iblk W d 4 t) (iblk W d 5 t) (iblk W d 6 t)) := by
  show (cfg1.win 7).cut (grid1.coords t) ((dats W 0 d).after 7 t) = _
  rw [after_7]

theorem flushed_eq : (dats W 0 d).flushed 7 t = ((cfg1.win 7).blk t).view.read (Elt Ideal) (fun x : S4096x128.Idx => resAt W d (x 0) (x 1)) := by
  rw [flushed7]
  funext y
  obtain ⟨r, c, rfl⟩ : ∃ (r : Fin 1024) (c : Fin 128), y = ix2 r c := ⟨y 0, y 1, funext fun a => by match a with | ⟨0, _⟩ => rfl | ⟨1, _⟩ => rfl⟩
  rw [View.read_apply, emb7]
  exact out_eq W d t r c

theorem mem_blk (i : S4096x128.Idx) (h : t.val = (i 0).val / 1024) : i ∈ ((cfg1.win 7).blk t).view.set := by
  have e : ((cfg1.win 7).blk t).view.emb (ix2 (⟨(i 0).val % 1024, Nat.mod_lt _ (by decide)⟩ : Fin 1024) (i 1 : Fin 128)) = i := by
    refine (emb7 t _ _).trans ?_
    refine funext fun a => Fin.ext ?_
    match a with
    | ⟨0, _⟩ => show t.val * 1024 + (i 0).val % 1024 = (i 0).val; omega
    | ⟨1, _⟩ => rfl
  rw [← e]
  exact View.emb_mem_set _ _

/-- The whole result array. -/
theorem arr7_eq : (dats W 0 d).arrAt 7 cfg1.N = (fun x : S4096x128.Idx => resAt W d (x 0) (x 1)) :=
  (dats W 0 d).arrAt_eq_of_cover 7 _ (fun t _ => flushed_eq W d t) fun i =>
    ⟨⟨(i 0 : Fin 4096).val / 1024, by have h : (i 0 : Fin 4096).val < 4096 := (i 0 : Fin 4096).isLt; show _ < 4; omega⟩, flush1_7 _, mem_blk _ i rfl⟩

/-! ## The result, from the program's arguments -/

variable (m : (ℓ : Loc nD τ sig) → Buf (Elt Ideal) ℓ)

/-- An argument, as the program starts. -/
abbrev ar (r : Ref sig .tc) : Buf (Elt Ideal) ((d.tc : Thread nD τ).loc r) := m (d, Proc.devRef .tc r)

theorem W2_at (r : Ref sig .tc) (h0 : r ∉ [main_v0]) (h : r ≠ main_v1) : W2 m d (Proc.devRef .tc r) = ar d m r := by
  unfold W2
  rw [Function.update_of_ne (fun e => h (Proc.devRef_injective _ e))]
  unfold W1
  rw [StableHlo.after_unwritten [main_v0] (ops := ops0) rfl h0]

theorem tb_eq : tb m d = ar d m main_arg1 := by
  unfold tb W1
  rw [StableHlo.after_unwritten [main_v0] (ops := ops0) rfl (by decide)]

theorem W3_v1 : W3 m d (Proc.devRef .tc main_v1) = agg scale (iv m d) (tb m d) := by
  unfold W3
  rw [StableHlo.after_unwritten [main_v2, main_v3, main_v4, main_v5] (ops := ops1) rfl (by decide)]
  unfold W2
  rw [Function.update_self]

theorem W3_v2 : W3 m d (Proc.devRef .tc main_v2) = (extractStridedSlice S128x256 ![0, 0] (ar d m main_arg3 : S256x256.Idx → EReal) slices_S256x256_S128x256_0_0 : S128x256.Idx → EReal) := by
  rw [← W2_at d m main_arg3 (by decide) (by decide)]
  unfold W3 ops1
  after_results_simp

theorem W3_v3 : W3 m d (Proc.devRef .tc main_v3) = (extractStridedSlice S128x256 ![128, 0] (ar d m main_arg3 : S256x256.Idx → EReal) slices_S256x256_S128x256_128_0 : S128x256.Idx → EReal) := by
  rw [← W2_at d m main_arg3 (by decide) (by decide)]
  unfold W3 ops1
  after_results_simp

theorem W3_v4 : W3 m d (Proc.devRef .tc main_v4) = (shapeCast S1x256 (ar d m main_arg4 : S256.Idx → EReal) shapeCasts_S256_S1x256 : S1x256.Idx → EReal) := by
  rw [← W2_at d m main_arg4 (by decide) (by decide)]
  unfold W3 ops1
  after_results_simp
  rfl

theorem W3_v5 : W3 m d (Proc.devRef .tc main_v5) = (shapeCast S1x128 (ar d m main_arg6 : S128.Idx → EReal) shapeCasts_S128_S1x128 : S1x128.Idx → EReal) := by
  rw [← W2_at d m main_arg6 (by decide) (by decide)]
  unfold W3 ops1
  after_results_simp
  rfl

theorem slice_lo (x : S256x256.Idx → EReal) (j : Fin 128) (k : Fin 256) :
    extractStridedSlice S128x256 ![0, 0] x slices_S256x256_S128x256_0_0 (ix2 j k) = x (ix2 (Fin.castAdd 128 j) k) :=
  extractStridedSlice_apply _ _ _ _ _ fun a => by
    match a with
    | ⟨0, _⟩ => show j.val = 0 + j.val; omega
    | ⟨1, _⟩ => show k.val = 0 + k.val; omega

theorem slice_hi (x : S256x256.Idx → EReal) (j : Fin 128) (k : Fin 256) :
    extractStridedSlice S128x256 ![128, 0] x slices_S256x256_S128x256_128_0 (ix2 j k) = x (ix2 (Fin.natAdd 128 j) k) :=
  extractStridedSlice_apply _ _ _ _ _ fun a => by
    match a with
    | ⟨0, _⟩ => show 128 + j.val = 128 + j.val; rfl
    | ⟨1, _⟩ => show k.val = 0 + k.val; omega

theorem cast_row256 (x : S256.Idx → EReal) (k : Fin 256) : shapeCast S1x256 x shapeCasts_S256_S1x256 (ix2 (0 : Fin 1) k) = x (ix1 k) :=
  shapeCast_apply _ _ _ _ (by rw [Shape.rowMajor_val_one, Shape.rowMajor_val_two]; show k.val = 0 * _ + k.val; omega)

theorem cast_row128 (x : S128.Idx → EReal) (k : Fin 128) : shapeCast S1x128 x shapeCasts_S128_S1x128 (ix2 (0 : Fin 1) k) = x (ix1 k) :=
  shapeCast_apply _ _ _ _ (by rw [Shape.rowMajor_val_one, Shape.rowMajor_val_two]; show k.val = 0 * _ + k.val; omega)

theorem cast_place (x : S4096x200.Idx → BitVec 32) (r : Fin 4096) (k : Fin 200) :
    shapeCast S819200 x shapeCasts_S4096x200_S819200 (place (200 * r.val + k.val)) = x (ix2 r k) := by
  refine shapeCast_apply _ _ _ _ ?_
  unfold place
  rw [Shape.rowMajor_val_one, Shape.rowMajor_val_two]
  have := r.isLt
  have := k.isLt
  show r.val * 200 + k.val = (200 * r.val + k.val) % 819200
  omega

/-- The list's entry for node `r`'s `k`-th neighbour. -/
theorem iv_place (r : Fin 4096) (k : Fin 200) : iv m d (place (200 * r.val + k.val)) = (ar d m main_arg2 : S4096x200.Idx → BitVec 32) (ix2 r k) := by
  rw [iv_eq]
  exact cast_place _ r k

theorem netAt_eq {x0 x1 a g : S4096x128.Idx → EReal} {wa wb : S128x256.Idx → EReal} {bb : S1x256.Idx → EReal} {v2 w2 : S256x128.Idx → EReal} {bc : S1x128.Idx → EReal}
    {w1 : S256x256.Idx → EReal} {b1 : S256.Idx → EReal} {b2 : S128.Idx → EReal} (h0 : x0 = a) (h1 : x1 = g)
    (ha : wa = extractStridedSlice S128x256 ![0, 0] w1 slices_S256x256_S128x256_0_0) (hb : wb = extractStridedSlice S128x256 ![128, 0] w1 slices_S256x256_S128x256_128_0)
    (hbb : bb = shapeCast S1x256 b1 shapeCasts_S256_S1x256) (h2 : v2 = w2) (hbc : bc = shapeCast S1x128 b2 shapeCasts_S128_S1x128) (r : Fin 4096) (c : Fin 128) :
    netAt x0 x1 wa wb bb v2 bc r c = mlpAt a g w1 b1 w2 b2 r c := by
  subst h0 h1 ha hb hbb h2 hbc
  unfold netAt mlpAt hidAt
  simp only [slice_lo, slice_hi, cast_row256, cast_row128]

theorem scale_eq : scale (F := Ideal) = ((200⁻¹ : ℝ) : EReal) := IdealRules.named_const.ideal_named_scalar _ _ _ _ rfl

/-- The result array the program leaves: the network of the node's row beside the mean of its neighbours' rows. -/
theorem W4_v6 : W4 m d (Proc.devRef .tc main_v6) = fun x : S4096x128.Idx =>
    mlpAt (ar d m main_arg0) (fun y : S4096x128.Idx => meanAt (ar d m main_arg2) (ar d m main_arg1) (y 0) (y 1)) (ar d m main_arg3) (ar d m main_arg4) (ar d m main_arg5)
      (ar d m main_arg6) (x 0) (x 1) := by
  have e := (Pipeline.afterRegion_arr (dats (W3 m) 0 d) (W3 m d) winFacts1.arr_inj 7).trans (arr7_eq (W3 m) d)
  refine e.trans (funext fun x => ?_)
  have g : (agg scale (iv m d) (tb m d) : S4096x128.Idx → EReal) = fun y : S4096x128.Idx => meanAt (ar d m main_arg2) (ar d m main_arg1) (y 0) (y 1) := by
    funext y
    obtain ⟨r, c, rfl⟩ : ∃ (r : Fin 4096) (c : Fin 128), y = ix2 r c := ⟨y 0, y 1, funext fun a => by match a with | ⟨0, _⟩ => rfl | ⟨1, _⟩ => rfl⟩
    rw [scale_eq, tb_eq]
    exact agg_eq_mean _ _ _ (iv_place d m) r c
  exact netAt_eq (W3_kept m d main_arg0 (by decide) (by decide) (by decide)) ((W3_v1 d m).trans g) (W3_v2 d m) (W3_v3 d m) (W3_v4 d m)
    (W3_kept m d main_arg5 (by decide) (by decide) (by decide)) (W3_v5 d m) _ _

end Cert.Proof.KernelIdeal

end
-- ==== Proof.GatherRows.lean ====
/-
  A gather of whole rows, read at an index.
-/
module

public import Idealize.ShloMosaic.Lib.ValueIdx

@[expose] public section

noncomputable section

namespace Cert.Proof.Gather

open Idealize.ShloMosaic Idealize.ShloMosaic.ValueIdx

/-- The dimension numbers of `x[idx]` for a table `[N, C]` and row numbers `[A, B]`, the latter as `[A, B, 1]`. -/
abbrev rowDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Entry `(a, b, c)` is column `c` of the row whose number stands at `(a, b)`, when that is a row of the table. -/
theorem gather_rows_apply {α : Type} {N C A B : ℕ} (hN : N < 2 ^ 31) (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ 32) (a : Fin A) (b : Fin B) (c : Fin C)
    (r : Fin N) (hr : (idx (ix3 a b (0 : Fin 1))).toNat = r.val) :
    Host.gather (rowDims N C A B wf) x idx (ix3 a b c) = x (ix2 r c) := by
  unfold Host.gather
  refine congrArg x (funext fun k => Fin.ext ?_)
  show (rowDims N C A B wf).start (ix3 a b c) idx k + (rowDims N C A B wf).batchCoord (ix3 a b c) k
      + (rowDims N C A B wf).offCoord (ix3 a b c) k = _
  have h01 : k = 0 ∨ k = 1 := by
    match k with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C A B wf).startIndexMap from List.mem_singleton.mpr rfl)]
    have hsi : (rowDims N C A B wf).siIdx (ix3 a b c) ⟨List.idxOf (0 : Fin 2) (rowDims N C A B wf).startIndexMap,
        List.idxOf_lt_length_iff.2 (List.mem_singleton.mpr rfl)⟩ = ix3 a b (0 : Fin 1) := by
      funext q; refine Fin.ext ?_
      match q with
      | ⟨0, _⟩ => rfl
      | ⟨1, _⟩ => rfl
      | ⟨2, _⟩ => rfl
    rw [hsi]
    have hi : (idx (ix3 a b (0 : Fin 1))).toInt = (r.val : ℤ) := by
      rw [BitVec.toInt_eq_toNat_cond, hr, if_pos (by have := r.isLt; omega)]
    show min (idx (ix3 a b (0 : Fin 1))).toInt.toNat (N - 1) = r.val
    rw [hi, Int.toNat_natCast]
    have := r.isLt
    omega
  · rw [GatherDims.batchCoord_eq_zero _ _ _ List.not_mem_nil]
    unfold GatherDims.start
    rw [dif_neg (show (1 : Fin 2) ∉ (rowDims N C A B wf).startIndexMap from fun h => by simpa using h)]
    simp only [Nat.zero_add, Nat.add_zero]
    unfold GatherDims.offCoord
    rw [dif_pos (show (1 : Fin 2) ∈ (rowDims N C A B wf).sKept from (GatherDims.mem_sKept _ _).mpr ⟨by simp, List.not_mem_nil⟩)]
    rfl

end Cert.Proof.Gather

end
-- ==== Proof.RefValue.lean ====
/-
  The reference's result, over the extended reals and for indices that name rows of the table: the network of the node's
  row beside the mean of its gathered rows.
-/
module

public import proofs.«01_k».proof.Proof.Dense
public import proofs.«01_k».proof.Proof.GatherRows
public import proofs.«01_k».proof.Proof.Gen.ReferenceIdeal.Run
public import Idealize.ShloMosaic.Lib.ReduceAll
public import Idealize.ShloMosaic.Lib.StackMember
public import Idealize.ShloMosaic.Lib.Pointwise.Reduce
public import Idealize.ShloMosaic.Lib.Pipeline.Value

@[expose] public section

noncomputable section

namespace Cert.Proof.Gather

open Cert.ReferenceIdeal Cert.ReferenceIdeal.Gen
open Idealize.ShloMosaic hiding ix1 ix2 ix3
open Idealize.ShloMosaic.ValueIdx Idealize.ShloMosaic.TcCoe

variable (x2 : IVec S4096x200 32)

/-- A word naming a row, against the reference's bounds. -/
theorem word_sge (v : BitVec 32) (h : v.toNat < 100000) : IntOp.cmpi .sge v 0#32 = 1#1 := by
  have e : v.toInt = v.toNat := by rw [BitVec.toInt_eq_toNat_cond, if_pos (by omega)]
  have : (BitVec.sle 0#32 v) = true := by rw [BitVec.sle_eq_decide, e]; simp
  simp [IntOp.cmpi, this]

theorem word_slt (v : BitVec 32) (h : v.toNat < 100000) : IntOp.cmpi .slt v 0#32 = 0#1 := by
  have e : v.toInt = v.toNat := by rw [BitVec.toInt_eq_toNat_cond, if_pos (by omega)]
  have : (BitVec.slt v 0#32) = false := by rw [BitVec.slt_eq_decide, e]; simp
  simp [IntOp.cmpi, this]

theorem word_sle (v : BitVec 32) (h : v.toNat < 100000) : IntOp.cmpi .sle v 99999#32 = 1#1 := by
  have e : v.toInt = v.toNat := by rw [BitVec.toInt_eq_toNat_cond, if_pos (by omega)]
  have : (BitVec.sle v 99999#32) = true := by
    rw [BitVec.sle_eq_decide, e, show (99999#32).toInt = 99999 by decide]; simp; omega
  simp [IntOp.cmpi, this]

/-- Every index passes the reference's test for being there, -/
theorem valid_eq (h : ∀ x, (x2 x).toNat < 100000) :
    cmpi .sge x2 (broadcastInDim S4096x200 ![] bcast_S_S4096x200 (constantI S_ 32 0#32)) = fun _ => 1#1 :=
  funext fun x => word_sge _ (h x)

/-- none is negative, -/
theorem neg_eq (h : ∀ x, (x2 x).toNat < 100000) :
    cmpi .slt x2 (broadcastInDim S4096x200 ![] bcast_S_S4096x200 (constantI S_ 32 0#32)) = fun _ => 0#1 :=
  funext fun x => word_slt _ (h x)

/-- and each is within the table. -/
theorem within_eq (h : ∀ x, (x2 x).toNat < 100000) :
    Host.reduce IntOp.andi (andi (cmpi .sge (broadcastInDim S4096x200x1 ![0, 1] bcast_S4096x200_S4096x200x1_0_1 x2) (broadcastInDim S4096x200x1 ![] bcast_S_S4096x200x1 (constantI S_ 32 0#32)))
      (cmpi .sle (broadcastInDim S4096x200x1 ![0, 1] bcast_S4096x200_S4096x200x1_0_1 x2)
        (broadcastInDim S4096x200x1 ![0, 1, 2] bcast_S1x1x1_S4096x200x1_0_1_2 (broadcastInDim S1x1x1 ![2] bcast_S1_S1x1x1_2 (constantI S1 32 99999#32)))))
      (constantI S_ 1 1#1) reducesTo_S4096x200x1_S4096x200_d2 h_S_ = fun _ => 1#1 := by
  funext j
  refine Host.reduce_andi_one _ _ _ _ j rfl fun x => ?_
  exact (congrArg₂ IntOp.andi (word_sge _ (h _)) (word_sle _ (h _))).trans (by decide)

theorem select_ones {s : Shape} {α : Type} (a b : s.Idx → α) : select (fun _ => 1#1) a b = a := rfl
theorem select_zeros {s : Shape} {α : Type} (a b : s.Idx → α) : select (fun _ => 0#1) a b = b := rfl

theorem bcast_ones {s t : Shape} (dims : Fin s.rank → Fin t.rank) (h : s.BroadcastsInDim t dims) : broadcastInDim t dims h (fun _ => 1#1) = fun _ => 1#1 := rfl

/-- The gathered row's entry. -/
theorem row_eq (tb : FVec Ideal S100000x128 .f32) (h : ∀ x, (x2 x).toNat < 100000) (r : Fin 4096) (k : Fin 200) (c : Fin 128) :
    Host.gather gather_S100000x128_S4096x200x1_S4096x200x128_2_0_n_n_0_2_1128 tb (broadcastInDim S4096x200x1 ![0, 1] bcast_S4096x200_S4096x200x1_0_1 x2) (ix3 r k c)
      = tb (ix2 (rowOf (x2 (ix2 r k))) c) := by
  refine gather_rows_apply (by norm_num) _ tb _ r k c (rowOf (x2 (ix2 r k))) ?_
  rw [broadcastInDim_apply ![0, 1] _ x2 (ix3 r k (0 : Fin 1)) (ix2 r k) (by intro a; match a with | ⟨0, _⟩ => rfl | ⟨1, _⟩ => rfl)]
  exact (Nat.mod_eq_of_lt (h _)).symm

/-- The mean, as the reference forms it: the sum of the gathered rows over the count. -/
def meanR (tb : FVec Ideal S100000x128 .f32) : FVec Ideal S4096x128 .f32 :=
  Host.divf (Host.reduceAdd (mulf (Host.gather gather_S100000x128_S4096x200x1_S4096x200x128_2_0_n_n_0_2_1128 tb (broadcastInDim S4096x200x1 ![0, 1] bcast_S4096x200_S4096x200x1_0_1 x2))
      (broadcastInDim S4096x200x128 ![0, 1, 2] bcast_S4096x200x1_S4096x200x128_0_1_2 (broadcastInDim S4096x200x1 ![0, 1] bcast_S4096x200_S4096x200x1_0_1 (uitofp .f32 (fun _ : S4096x200.Idx => 1#1)))))
      (constant S_ .f32 0x00000000#32) reducesTo_S4096x200x128_S4096x128_d1 h_S_)
    (broadcastInDim S4096x128 ![0, 1] bcast_S4096x1_S4096x128_0_1 (maximumf (Host.reduceAdd (broadcastInDim S4096x200x1 ![0, 1] bcast_S4096x200_S4096x200x1_0_1 (uitofp .f32 (fun _ : S4096x200.Idx => 1#1)))
      (constant S_ .f32 0x00000000#32) reducesTo_S4096x200x1_S4096x1_d1 h_S_) (broadcastInDim S4096x1 ![] bcast_S_S4096x1 (constant S_ .f32 0x3F800000#32))))

/-- The row numbers the reference gathers at: an index below zero replaced by zero, then counted from the table's end. -/
def cleanR : IVec S4096x200 32 :=
  select (cmpi .sge x2 (broadcastInDim S4096x200 ![] bcast_S_S4096x200 (constantI S_ 32 0#32))) x2 (broadcastInDim S4096x200 ![] bcast_S_S4096x200 (constantI S_ 32 0#32))
def wrapR : IVec S4096x200 32 :=
  select (cmpi .slt (cleanR x2) (broadcastInDim S4096x200 ![] bcast_S_S4096x200 (constantI S_ 32 0#32)))
    (addi (cleanR x2) (broadcastInDim S4096x200 ![] bcast_S_S4096x200 (constantI S_ 32 100000#32))) (cleanR x2)

theorem cleanR_eq (h : ∀ x, (x2 x).toNat < 100000) : cleanR x2 = x2 := by
  unfold cleanR; rw [valid_eq x2 h]; rfl

theorem wrapR_eq (h : ∀ x, (x2 x).toNat < 100000) : wrapR x2 = x2 := by
  unfold wrapR; rw [cleanR_eq x2 h, neg_eq x2 h]; rfl

/-- The mean as the reference forms it for any indices: a row out of the table's bounds reads as not a number, and an
    index below zero counts for nothing. -/
def rawR (tb : FVec Ideal S100000x128 .f32) : FVec Ideal S4096x128 .f32 :=
  Host.divf (Host.reduceAdd (mulf (select (broadcastInDim S4096x200x128 ![0, 1] bcast_S4096x200_S4096x200x128_0_1
        (Host.reduce IntOp.andi (andi (cmpi .sge (broadcastInDim S4096x200x1 ![0, 1] bcast_S4096x200_S4096x200x1_0_1 (wrapR x2)) (broadcastInDim S4096x200x1 ![] bcast_S_S4096x200x1 (constantI S_ 32 0#32)))
            (cmpi .sle (broadcastInDim S4096x200x1 ![0, 1] bcast_S4096x200_S4096x200x1_0_1 (wrapR x2))
              (broadcastInDim S4096x200x1 ![0, 1, 2] bcast_S1x1x1_S4096x200x1_0_1_2 (broadcastInDim S1x1x1 ![2] bcast_S1_S1x1x1_2 (constantI S1 32 99999#32)))))
          (constantI S_ 1 1#1) reducesTo_S4096x200x1_S4096x200_d2 h_S_))
        (Host.gather gather_S100000x128_S4096x200x1_S4096x200x128_2_0_n_n_0_2_1128 tb (broadcastInDim S4096x200x1 ![0, 1] bcast_S4096x200_S4096x200x1_0_1 (wrapR x2)))
        (broadcastInDim S4096x200x128 ![] bcast_S_S4096x200x128 (constant S_ .f32 0x7FC00000#32)))
      (broadcastInDim S4096x200x128 ![0, 1, 2] bcast_S4096x200x1_S4096x200x128_0_1_2 (broadcastInDim S4096x200x1 ![0, 1] bcast_S4096x200_S4096x200x1_0_1
        (uitofp .f32 (cmpi .sge x2 (broadcastInDim S4096x200 ![] bcast_S_S4096x200 (constantI S_ 32 0#32)))))))
      (constant S_ .f32 0x00000000#32) reducesTo_S4096x200x128_S4096x128_d1 h_S_)
    (broadcastInDim S4096x128 ![0, 1] bcast_S4096x1_S4096x128_0_1 (maximumf (Host.reduceAdd (broadcastInDim S4096x200x1 ![0, 1] bcast_S4096x200_S4096x200x1_0_1
        (uitofp .f32 (cmpi .sge x2 (broadcastInDim S4096x200 ![] bcast_S_S4096x200 (constantI S_ 32 0#32)))))
      (constant S_ .f32 0x00000000#32) reducesTo_S4096x200x1_S4096x1_d1 h_S_) (broadcastInDim S4096x1 ![] bcast_S_S4096x1 (constant S_ .f32 0x3F800000#32))))

theorem rawR_eq (tb : FVec Ideal S100000x128 .f32) (h : ∀ x, (x2 x).toNat < 100000) : rawR x2 tb = meanR x2 tb := by
  unfold rawR meanR
  rw [wrapR_eq x2 h, within_eq x2 h, valid_eq x2 h, bcast_ones, select_ones]

/-- The network, as the reference forms it from the node's rows and the means. -/
def netR (a g : FVec Ideal S4096x128 .f32) (w1 : FVec Ideal S256x256 .f32) (b1 : FVec Ideal S256 .f32) (w2 : FVec Ideal S256x128 .f32) (b2 : FVec Ideal S128 .f32) : FVec Ideal S4096x128 .f32 :=
  addf (Host.dotGeneral dot_S4096x256_S256x128_S4096x128_1_0_0_1_n_n none
      (maximumf (addf (Host.dotGeneral dot_S4096x256_S256x256_S4096x256_1_0_0_1_n_n none
          (concatenate S4096x256 1 [⟨S4096x128, a⟩, ⟨S4096x128, g⟩] concatenates_S4096x128_S4096x128_S4096x256_d1) w1)
        (broadcastInDim S4096x256 ![0, 1] bcast_S1x256_S4096x256_0_1 (broadcastInDim S1x256 ![1] bcast_S256_S1x256_1 b1)))
        (broadcastInDim S4096x256 ![] bcast_S_S4096x256 (constant S_ .f32 0x00000000#32))) w2)
      (broadcastInDim S4096x128 ![0, 1] bcast_S1x128_S4096x128_0_1 (broadcastInDim S1x128 ![1] bcast_S128_S1x128_1 b2))

set_option maxRecDepth 8192 in
/-- The reference's result from its arguments, once the tests on the indices are seen to pass. -/
theorem res_eq (m : (ℓ : Loc nD τ sig) → Buf (Elt Ideal) ℓ) (c : Dev nD) (h : ∀ x : S4096x200.Idx, ((m ((c.tc : Thread nD τ).loc main_arg2) : S4096x200.Idx → BitVec 32) x).toNat < 100000) :
    Value.res_main_v24 m c = netR (m ((c.tc : Thread nD τ).loc main_arg0)) (meanR (m ((c.tc : Thread nD τ).loc main_arg2)) (m ((c.tc : Thread nD τ).loc main_arg1)))
      (m ((c.tc : Thread nD τ).loc main_arg3)) (m ((c.tc : Thread nD τ).loc main_arg4)) (m ((c.tc : Thread nD τ).loc main_arg5)) (m ((c.tc : Thread nD τ).loc main_arg6)) := by
  rw [← rawR_eq _ _ h]
  unfold Value.res_main_v24 rawR wrapR cleanR netR
  rfl

theorem ones_eq : (uitofp .f32 (fun _ : S4096x200.Idx => 1#1) : FVec Ideal S4096x200 .f32) = fun _ => (1 : EReal) :=
  funext fun _ => by
    show (((1#1).toNat : ℝ) : EReal) = 1
    norm_num

/-- The reference's mean at an index. -/
theorem meanR_apply (tb : FVec Ideal S100000x128 .f32) (h : ∀ x, (x2 x).toNat < 100000) (r : Fin 4096) (c : Fin 128) :
    meanR x2 tb (ix2 r c) = meanAt x2 tb r c := by
  unfold meanR
  rw [ones_eq, hostDivf_apply, hostReduceAdd_apply, Ideal.hostReduceAdd_r3_a1,
    broadcastInDim_apply ![0, 1] bcast_S4096x1_S4096x128_0_1 _ (ix2 r c) (ix2 r (0 : Fin 1)) (by intro a; match a with | ⟨0, _⟩ => rfl | ⟨1, _⟩ => rfl)]
  show Ideal.div (Ideal.ofBits .f32 0x00000000#32 + ∑ k : Fin 200, Host.gather gather_S100000x128_S4096x200x1_S4096x200x128_2_0_n_n_0_2_1128 tb (broadcastInDim S4096x200x1 ![0, 1] bcast_S4096x200_S4096x200x1_0_1 x2) (ix3 r k c) * 1)
    (max (Host.reduceAdd (F := Ideal) (broadcastInDim S4096x200x1 ![0, 1] bcast_S4096x200_S4096x200x1_0_1 fun _ : S4096x200.Idx => (1 : EReal)) (constant S_ .f32 0x00000000#32) reducesTo_S4096x200x1_S4096x1_d1 h_S_ (ix2 r (0 : Fin 1))) (Ideal.ofBits .f32 0x3F800000#32)) = _
  rw [hostReduceAdd_apply, Ideal.hostReduceAdd_r3_a1]
  show Ideal.div _ (max (Ideal.ofBits .f32 0x00000000#32 + ∑ k : Fin 200, (1 : EReal)) _) = _
  rw [Ideal.ofBits_zero_f32, Ideal.ofBits_one_f32, div_count, zero_add]
  unfold meanAt
  simp only [mul_one, row_eq x2 tb h]

/-- The reference's network at an index. -/
theorem netR_apply (a g : FVec Ideal S4096x128 .f32) (w1 : FVec Ideal S256x256 .f32) (b1 : FVec Ideal S256 .f32) (w2 : FVec Ideal S256x128 .f32) (b2 : FVec Ideal S128 .f32)
    (r : Fin 4096) (c : Fin 128) : netR a g w1 b1 w2 b2 (ix2 r c) = mlpAt a g w1 b1 w2 b2 r c := by
  have hid (k : Fin 256) : maximumf (addf (Host.dotGeneral dot_S4096x256_S256x256_S4096x256_1_0_0_1_n_n none
          (concatenate S4096x256 1 [⟨S4096x128, a⟩, ⟨S4096x128, g⟩] concatenates_S4096x128_S4096x128_S4096x256_d1) w1)
        (broadcastInDim S4096x256 ![0, 1] bcast_S1x256_S4096x256_0_1 (broadcastInDim S1x256 ![1] bcast_S256_S1x256_1 b1)))
        (broadcastInDim S4096x256 ![] bcast_S_S4096x256 (constant S_ .f32 0x00000000#32)) (ix2 r k) = hidAt a g w1 b1 r k := by
    show max (Host.dotGeneral (DotDims.plain 4096 256 256) none (concatenate S4096x256 1 [⟨S4096x128, a⟩, ⟨S4096x128, g⟩] concatenates_S4096x128_S4096x128_S4096x256_d1) w1 (ix2 r k)
      + broadcastInDim S4096x256 ![0, 1] bcast_S1x256_S4096x256_0_1 (broadcastInDim S1x256 ![1] bcast_S256_S1x256_1 b1) (ix2 r k)) (Ideal.ofBits .f32 0x00000000#32) = _
    rw [StackMember.dotGeneral_plain_apply, Ideal.ofBits_zero_f32, Fin.sum_univ_add (a := 128) (b := 128),
      broadcastInDim_apply ![0, 1] bcast_S1x256_S4096x256_0_1 _ (ix2 r k) (ix2 (0 : Fin 1) k) (by intro a; match a with | ⟨0, _⟩ => rfl | ⟨1, _⟩ => rfl),
      broadcastInDim_apply ![1] bcast_S256_S1x256_1 b1 (ix2 (0 : Fin 1) k) (ix1 k) (by intro a; match a with | ⟨0, _⟩ => rfl)]
    unfold hidAt
    congr 3
    · refine Finset.sum_congr rfl fun j _ => congrArg (· * _) ?_
      exact concatenate_pair_apply_left (t := S4096x256) 1 a g _ _ rfl (ix2 r j) (by intro b; match b with | ⟨0, _⟩ => rfl | ⟨1, _⟩ => rfl)
    · refine Finset.sum_congr rfl fun j _ => congrArg (· * _) ?_
      exact concatenate_pair_apply_right (t := S4096x256) 1 a g _ _ rfl rfl (ix2 r j) (by intro b hb; match b with | ⟨0, _⟩ => rfl | ⟨1, _⟩ => exact absurd rfl hb) (Nat.add_comm _ _)
  unfold netR mlpAt
  show Host.dotGeneral (DotDims.plain 4096 256 128) none _ w2 (ix2 r c) + broadcastInDim S4096x128 ![0, 1] bcast_S1x128_S4096x128_0_1 (broadcastInDim S1x128 ![1] bcast_S128_S1x128_1 b2) (ix2 r c) = _
  rw [StackMember.dotGeneral_plain_apply,
      broadcastInDim_apply ![0, 1] bcast_S1x128_S4096x128_0_1 _ (ix2 r c) (ix2 (0 : Fin 1) c) (by intro a; match a with | ⟨0, _⟩ => rfl | ⟨1, _⟩ => rfl),
      broadcastInDim_apply ![1] bcast_S128_S1x128_1 b2 (ix2 (0 : Fin 1) c) (ix1 c) (by intro a; match a with | ⟨0, _⟩ => rfl)]
  simp only [hid]

/-- The reference's whole result, from its arguments by name. -/
theorem ref_result (m : (ℓ : Loc nD τ sig) → Buf (Elt Ideal) ℓ) (d : Dev nD) {a : FVec Ideal S4096x128 .f32} {tb : FVec Ideal S100000x128 .f32} {x2 : IVec S4096x200 32}
    {w1 : FVec Ideal S256x256 .f32} {b1 : FVec Ideal S256 .f32} {w2 : FVec Ideal S256x128 .f32} {b2 : FVec Ideal S128 .f32}
    (h0 : m ((d.tc : Thread nD τ).loc main_arg0) = a) (h1 : m ((d.tc : Thread nD τ).loc main_arg1) = tb) (h2 : m ((d.tc : Thread nD τ).loc main_arg2) = x2)
    (h3 : m ((d.tc : Thread nD τ).loc main_arg3) = w1) (h4 : m ((d.tc : Thread nD τ).loc main_arg4) = b1) (h5 : m ((d.tc : Thread nD τ).loc main_arg5) = w2)
    (h6 : m ((d.tc : Thread nD τ).loc main_arg6) = b2) (h : ∀ x, (x2 x).toNat < 100000) :
    Value.res_main_v24 m d = fun x : S4096x128.Idx => mlpAt a (fun y : S4096x128.Idx => meanAt x2 tb (y 0) (y 1)) w1 b1 w2 b2 (x 0) (x 1) := by
  subst h0 h1 h2 h3 h4 h5 h6
  rw [res_eq m d h]
  have g (x2 : IVec S4096x200 32) (tb : FVec Ideal S100000x128 .f32) (h : ∀ x, (x2 x).toNat < 100000) : meanR x2 tb = fun y : S4096x128.Idx => meanAt x2 tb (y 0) (y 1) := by
    funext y
    obtain ⟨r, c, rfl⟩ : ∃ (r : Fin 4096) (c : Fin 128), y = ix2 r c := ⟨y 0, y 1, funext fun a => by match a with | ⟨0, _⟩ => rfl | ⟨1, _⟩ => rfl⟩
    exact meanR_apply x2 tb h r c
  have gn (a g : FVec Ideal S4096x128 .f32) (w1 : FVec Ideal S256x256 .f32) (b1 : FVec Ideal S256 .f32) (w2 : FVec Ideal S256x128 .f32) (b2 : FVec Ideal S128 .f32) :
      netR a g w1 b1 w2 b2 = fun x : S4096x128.Idx => mlpAt a g w1 b1 w2 b2 (x 0) (x 1) := by
    funext x
    obtain ⟨r, c, rfl⟩ : ∃ (r : Fin 4096) (c : Fin 128), x = ix2 r c := ⟨x 0, x 1, funext fun a => by match a with | ⟨0, _⟩ => rfl | ⟨1, _⟩ => rfl⟩
    exact netR_apply a g w1 b1 w2 b2 r c
  exact (gn _ _ _ _ _ _).trans (congrArg (fun (q : FVec Ideal S4096x128 .f32) => fun x : S4096x128.Idx => mlpAt _ q _ _ _ _ (x 0) (x 1)) (g _ _ h))

end Cert.Proof.Gather

end
-- ==== Proof.lean ====
/-
  The claims: the kernel and its idealization run, leave their arguments as they were and every semaphore at zero; so does
  the reference; the one constant the idealized kernel names is a 200th; and over the extended reals the idealized kernel
  and the reference end with equal results, whenever every index names a row of the table.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Kernel.Final
public import proofs.«01_k».proof.Proof.KernelIdeal.Final
public import proofs.«01_k».proof.Proof.KernelIdeal.Result
public import proofs.«01_k».proof.Proof.RefValue
public import proofs.«01_k».proof.Proof.Precondition
public import Idealize.ShloMosaic.Adequacy
public import Idealize.ShloMosaic.Init

@[expose] public section

noncomputable section

namespace Cert.Proof

open Idealize.ShloMosaic Idealize.SL.Sem

/-- The precondition, read off the kernel's index argument, -/
theorem range_kernel {m : (ℓ : Loc Cert.Kernel.nD Cert.Kernel.τ Cert.Kernel.sig) → Buf (Elt Bits) ℓ} (h : Cert.Pre_Kernel m) (d : Dev Cert.Kernel.nD)
    (x : Cert.Kernel.S4096x200.Idx) : ((m (d, Proc.devRef .tc Cert.Kernel.main_arg2) : Cert.Kernel.S4096x200.Idx → BitVec 32) x).toNat < 100000 :=
  Gather.index_lt _ _ _ _ _ _ _ (h d) x

/-- and off the idealized kernel's. -/
theorem range_ideal {m : (ℓ : Loc Cert.KernelIdeal.nD Cert.KernelIdeal.τ Cert.KernelIdeal.sig) → Buf (Elt Ideal) ℓ} (h : Cert.Pre_KernelIdeal m) (d : Dev Cert.KernelIdeal.nD)
    (x : Cert.KernelIdeal.S4096x200.Idx) : ((m (d, Proc.devRef .tc Cert.KernelIdeal.main_arg2) : Cert.KernelIdeal.S4096x200.Idx → BitVec 32) x).toNat < 100000 :=
  Gather.index_lt _ _ _ _ _ _ _ (h d) x

theorem frame_kernel : Cert.quiescent_Kernel := fun m g h =>
  (θ_run (Cert.Kernel.defs (F := Bits)) _ _).mono (fun _ hr => ⟨fun c => (hr.1 c).2, hr.2⟩) (Kernel.run_frame m g (range_kernel h))

theorem frame_ideal : Cert.quiescent_KernelIdeal := fun m g h =>
  (θ_run (Cert.KernelIdeal.defs (F := Ideal)) _ _).mono (fun _ hr => ⟨fun c => (hr.1 c).2, hr.2⟩) (KernelIdeal.run_frame m g (range_ideal h))

theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run (F := Ideal) m g)

theorem frame_reference_pre : Cert.quiescent_ReferenceIdeal_pre_in_range := fun m g _ => frame_reference m g trivial

theorem named : Cert.preserves_Kernel_KernelIdeal :=
  IdealRules.named_const.statement Cert.KernelIdeal.κ "inv_m" .f32 0x3BA3D70A#32 ((200⁻¹ : ℝ) : EReal) rfl

/-- The two programs' results are the same function of the arguments. -/
theorem equal_results : Cert.algebraic_KernelIdeal_ReferenceIdeal := fun m g m' g' h hargs => by
  refine ⟨fun c => KernelIdeal.W4 m c (Proc.devRef .tc Cert.KernelIdeal.main_v6), ?_, ?_⟩
  · exact (θ_run (Cert.KernelIdeal.defs (F := Ideal)) _ _).mono (fun _ hr => hr.1) (KernelIdeal.run_frame m g (range_ideal h))
  · refine (θ_run (Cert.ReferenceIdeal.defs (F := Ideal)) _ _).mono (fun r hr c => ⟨?_, (hr c).2⟩) (Cert.ReferenceIdeal.Value.run (F := Ideal) m' g')
    obtain ⟨h0, h1, h2, h3, h4, h5, h6⟩ := hargs c
    exact (hr c).1.trans ((Gather.ref_result m' c h0 h1 h2 h3 h4 h5 h6 (range_ideal h c)).trans (KernelIdeal.W4_v6 c m).symm)

theorem claim : Cert.Claim :=
  ⟨Cert.Kernel.Gen.facts, Cert.KernelIdeal.Gen.facts, Cert.ReferenceIdeal.Gen.facts, Cert.Pre_in_range.Gen.facts,
    frame_kernel, frame_ideal, frame_reference, frame_reference_pre, named, equal_results⟩

end Cert.Proof

end
